-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQRefIdeal (m : (ℓ : Loc Cert.CrossQRefIdeal.nD Cert.CrossQRefIdeal.τ Cert.CrossQRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutRefIdeal (m : (ℓ : Loc Cert.CrossOutRefIdeal.nD Cert.CrossOutRefIdeal.τ Cert.CrossOutRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_MixInS (m : (ℓ : Loc Cert.MixInS.nD Cert.MixInS.τ Cert.MixInS.sig) → Buf (Elt Bits) ℓ) : Prop :=
  True

def Pre_MixInSIdeal (m : (ℓ : Loc Cert.MixInSIdeal.nD Cert.MixInSIdeal.τ Cert.MixInSIdeal.sig) → Buf (Elt Ideal) ℓ) : Prop :=
  True

def Pre_MixInSRefIdeal (m : (ℓ : Loc Cert.MixInSRefIdeal.nD Cert.MixInSRefIdeal.τ Cert.MixInSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_CrossQS (m : (ℓ : Loc Cert.CrossQS.nD Cert.CrossQS.τ Cert.CrossQS.sig) → Buf (Elt Bits) ℓ) : Prop :=
  True

def Pre_CrossQSIdeal (m : (ℓ : Loc Cert.CrossQSIdeal.nD Cert.CrossQSIdeal.τ Cert.CrossQSIdeal.sig) → Buf (Elt Ideal) ℓ) : Prop :=
  True

def Pre_CrossQSRefIdeal (m : (ℓ : Loc Cert.CrossQSRefIdeal.nD Cert.CrossQSRefIdeal.τ Cert.CrossQSRefIdeal.sig) → Buf (Elt Ideal) ℓ) : Prop :=
  True

def Pre_XattnS (m : (ℓ : Loc Cert.XattnS.nD Cert.XattnS.τ Cert.XattnS.sig) → Buf (Elt Bits) ℓ) : Prop :=
  True

def Pre_XattnSIdeal (m : (ℓ : Loc Cert.XattnSIdeal.nD Cert.XattnSIdeal.τ Cert.XattnSIdeal.sig) → Buf (Elt Ideal) ℓ) : Prop :=
  True

def Pre_XattnSRefIdeal (m : (ℓ : Loc Cert.XattnSRefIdeal.nD Cert.XattnSRefIdeal.τ Cert.XattnSRefIdeal.sig) → Buf (Elt Ideal) ℓ) : Prop :=
  True

def Pre_CrossOutS (m : (ℓ : Loc Cert.CrossOutS.nD Cert.CrossOutS.τ Cert.CrossOutS.sig) → Buf (Elt Bits) ℓ) : Prop :=
  True

def Pre_CrossOutSIdeal (m : (ℓ : Loc Cert.CrossOutSIdeal.nD Cert.CrossOutSIdeal.τ Cert.CrossOutSIdeal.sig) → Buf (Elt Ideal) ℓ) : Prop :=
  True

def Pre_CrossOutSRefIdeal (m : (ℓ : Loc Cert.CrossOutSRefIdeal.nD Cert.CrossOutSRefIdeal.τ Cert.CrossOutSRefIdeal.sig) → Buf (Elt Ideal) ℓ) : Prop :=
  True

def Pre_HgrnS (m : (ℓ : Loc Cert.HgrnS.nD Cert.HgrnS.τ Cert.HgrnS.sig) → Buf (Elt Bits) ℓ) : Prop :=
  True

def Pre_HgrnSIdeal (m : (ℓ : Loc Cert.HgrnSIdeal.nD Cert.HgrnSIdeal.τ Cert.HgrnSIdeal.sig) → Buf (Elt Ideal) ℓ) : Prop :=
  True

def Pre_HgrnSIdeal_hgrn_domain [hPre_hgrn_domain : Cert.Pre_hgrn_domain.Facts] (m : (ℓ : Loc Cert.HgrnSIdeal.nD Cert.HgrnSIdeal.τ Cert.HgrnSIdeal.sig) → Buf (Elt Ideal) ℓ) : Prop :=
  ∀ c : Dev Cert.HgrnSIdeal.nD,
    (Cert.Pre_hgrn_domain.fn (F := Ideal) (m ((c.tc : Thread Cert.HgrnSIdeal.nD Cert.HgrnSIdeal.τ).loc Cert.HgrnSIdeal.main_arg0)) (m ((c.tc : Thread Cert.HgrnSIdeal.nD Cert.HgrnSIdeal.τ).loc Cert.HgrnSIdeal.main_arg1)) (m ((c.tc : Thread Cert.HgrnSIdeal.nD Cert.HgrnSIdeal.τ).loc Cert.HgrnSIdeal.main_arg2)) (m ((c.tc : Thread Cert.HgrnSIdeal.nD Cert.HgrnSIdeal.τ).loc Cert.HgrnSIdeal.main_arg3))) = (fun _ => 1#1)

def Pre_HgrnSRefIdeal (m : (ℓ : Loc Cert.HgrnSRefIdeal.nD Cert.HgrnSRefIdeal.τ Cert.HgrnSRefIdeal.sig) → Buf (Elt Ideal) ℓ) : Prop :=
  True

def Pre_HgrnSRefIdeal_hgrn_domain [hPre_hgrn_domain : Cert.Pre_hgrn_domain.Facts] (m : (ℓ : Loc Cert.HgrnSRefIdeal.nD Cert.HgrnSRefIdeal.τ Cert.HgrnSRefIdeal.sig) → Buf (Elt Ideal) ℓ) : Prop :=
  ∀ c : Dev Cert.HgrnSRefIdeal.nD,
    (Cert.Pre_hgrn_domain.fn (F := Ideal) (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg2)) (m ((c.tc : Thread Cert.HgrnSRefIdeal.nD Cert.HgrnSRefIdeal.τ).loc Cert.HgrnSRefIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1)
      ∧ r.2.mem ((c.tc : Thread Cert.CrossQ.nD Cert.CrossQ.τ).loc Cert.CrossQ.main_arg2) = m ((c.tc : Thread Cert.CrossQ.nD Cert.CrossQ.τ).loc Cert.CrossQ.main_arg2))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1)
      ∧ r.2.mem ((c.tc : Thread Cert.CrossQIdeal.nD Cert.CrossQIdeal.τ).loc Cert.CrossQIdeal.main_arg2) = m ((c.tc : Thread Cert.CrossQIdeal.nD Cert.CrossQIdeal.τ).loc Cert.CrossQIdeal.main_arg2))
      ∧ r.2.sem = fun _ => 0)

def quiescent_CrossQRefIdeal [hCrossQRefIdeal : Cert.CrossQRefIdeal.Facts] : Prop :=
  ∀ (m : (ℓ : Loc Cert.CrossQRefIdeal.nD Cert.CrossQRefIdeal.τ Cert.CrossQRefIdeal.sig) → Buf (Elt Ideal) ℓ) (g : Dev Cert.CrossQRefIdeal.nD → PrngReg), Pre_CrossQRefIdeal m →
    θ_run (Cert.CrossQRefIdeal.defs (F := Ideal)) (onTc (τ := Cert.CrossQRefIdeal.τ) (Cert.CrossQRefIdeal.main (F := Ideal))) ⟨m, fun _ => 0, g⟩ (fun r => (∀ c : Dev Cert.CrossQRefIdeal.nD,
      r.2.mem ((c.tc : Thread Cert.CrossQRefIdeal.nD Cert.CrossQRefIdeal.τ).loc Cert.CrossQRefIdeal.main_arg0) = m ((c.tc : Thread Cert.CrossQRefIdeal.nD Cert.CrossQRefIdeal.τ).loc Cert.CrossQRefIdeal.main_arg0)
      ∧ r.2.mem ((c.tc : Thread Cert.CrossQRefIdeal.nD Cert.CrossQRefIdeal.τ).loc Cert.CrossQRefIdeal.main_arg1) = m ((c.tc : Thread Cert.CrossQRefIdeal.nD Cert.CrossQRefIdeal.τ).loc Cert.CrossQRefIdeal.main_arg1)
      ∧ r.2.mem ((c.tc : Thread Cert.CrossQRefIdeal.nD Cert.CrossQRefIdeal.τ).loc Cert.CrossQRefIdeal.main_arg2) = m ((c.tc : Thread Cert.CrossQRefIdeal.nD Cert.CrossQRefIdeal.τ).loc Cert.CrossQRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2)
      ∧ r.2.mem ((c.tc : Thread Cert.CrossOut.nD Cert.CrossOut.τ).loc Cert.CrossOut.main_arg3) = m ((c.tc : Thread Cert.CrossOut.nD Cert.CrossOut.τ).loc Cert.CrossOut.main_arg3))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
      ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3))
      ∧ r.2.sem = fun _ => 0)

def quiescent_CrossOutRefIdeal [hCrossOutRefIdeal : Cert.CrossOutRefIdeal.Facts] : Prop :=
  ∀ (m : (ℓ : Loc Cert.CrossOutRefIdeal.nD Cert.CrossOutRefIdeal.τ Cert.CrossOutRefIdeal.sig) → Buf (Elt Ideal) ℓ) (g : Dev Cert.CrossOutRefIdeal.nD → PrngReg), Pre_CrossOutRefIdeal m →
    θ_run (Cert.CrossOutRefIdeal.defs (F := Ideal)) (onTc (τ := Cert.CrossOutRefIdeal.τ) (Cert.CrossOutRefIdeal.main (F := Ideal))) ⟨m, fun _ => 0, g⟩ (fun r => (∀ c : Dev Cert.CrossOutRefIdeal.nD,
      r.2.mem ((c.tc : Thread Cert.CrossOutRefIdeal.nD Cert.CrossOutRefIdeal.τ).loc Cert.CrossOutRefIdeal.main_arg0) = m ((c.tc : Thread Cert.CrossOutRefIdeal.nD Cert.CrossOutRefIdeal.τ).loc Cert.CrossOutRefIdeal.main_arg0)
      ∧ r.2.mem ((c.tc : Thread Cert.CrossOutRefIdeal.nD Cert.CrossOutRefIdeal.τ).loc Cert.CrossOutRefIdeal.main_arg1) = m ((c.tc : Thread Cert.CrossOutRefIdeal.nD Cert.CrossOutRefIdeal.τ).loc Cert.CrossOutRefIdeal.main_arg1)
      ∧ r.2.mem ((c.tc : Thread Cert.CrossOutRefIdeal.nD Cert.CrossOutRefIdeal.τ).loc Cert.CrossOutRefIdeal.main_arg2) = m ((c.tc : Thread Cert.CrossOutRefIdeal.nD Cert.CrossOutRefIdeal.τ).loc Cert.CrossOutRefIdeal.main_arg2)
      ∧ r.2.mem ((c.tc : Thread Cert.CrossOutRefIdeal.nD Cert.CrossOutRefIdeal.τ).loc Cert.CrossOutRefIdeal.main_arg3) = m ((c.tc : Thread Cert.CrossOutRefIdeal.nD Cert.CrossOutRefIdeal.τ).loc Cert.CrossOutRefIdeal.main_arg3))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_MixInS [hMixInS : Cert.MixInS.Facts] : Prop :=
  ∀ (m : (ℓ : Loc Cert.MixInS.nD Cert.MixInS.τ Cert.MixInS.sig) → Buf (Elt Bits) ℓ) (g : Dev Cert.MixInS.nD → PrngReg), Pre_MixInS m →
    θ_run (Cert.MixInS.defs (F := Bits)) (onTc (τ := Cert.MixInS.τ) (Cert.MixInS.main (F := Bits))) ⟨m, fun _ => 0, g⟩ (fun r => (∀ c : Dev Cert.MixInS.nD,
      r.2.mem ((c.tc : Thread Cert.MixInS.nD Cert.MixInS.τ).loc Cert.MixInS.main_arg0) = m ((c.tc : Thread Cert.MixInS.nD Cert.MixInS.τ).loc Cert.MixInS.main_arg0)
      ∧ r.2.mem ((c.tc : Thread Cert.MixInS.nD Cert.MixInS.τ).loc Cert.MixInS.main_arg1) = m ((c.tc : Thread Cert.MixInS.nD Cert.MixInS.τ).loc Cert.MixInS.main_arg1)
      ∧ r.2.mem ((c.tc : Thread Cert.MixInS.nD Cert.MixInS.τ).loc Cert.MixInS.main_arg2) = m ((c.tc : Thread Cert.MixInS.nD Cert.MixInS.τ).loc Cert.MixInS.main_arg2))
      ∧ r.2.sem = fun _ => 0)

def quiescent_MixInSIdeal [hMixInSIdeal : Cert.MixInSIdeal.Facts] : Prop :=
  ∀ (m : (ℓ : Loc Cert.MixInSIdeal.nD Cert.MixInSIdeal.τ Cert.MixInSIdeal.sig) → Buf (Elt Ideal) ℓ) (g : Dev Cert.MixInSIdeal.nD → PrngReg), Pre_MixInSIdeal m →
    θ_run (Cert.MixInSIdeal.defs (F := Ideal)) (onTc (τ := Cert.MixInSIdeal.τ) (Cert.MixInSIdeal.main (F := Ideal))) ⟨m, fun _ => 0, g⟩ (fun r => (∀ c : Dev Cert.MixInSIdeal.nD,
      r.2.mem ((c.tc : Thread Cert.MixInSIdeal.nD Cert.MixInSIdeal.τ).loc Cert.MixInSIdeal.main_arg0) = m ((c.tc : Thread Cert.MixInSIdeal.nD Cert.MixInSIdeal.τ).loc Cert.MixInSIdeal.main_arg0)
      ∧ r.2.mem ((c.tc : Thread Cert.MixInSIdeal.nD Cert.MixInSIdeal.τ).loc Cert.MixInSIdeal.main_arg1) = m ((c.tc : Thread Cert.MixInSIdeal.nD Cert.MixInSIdeal.τ).loc Cert.MixInSIdeal.main_arg1)
      ∧ r.2.mem ((c.tc : Thread Cert.MixInSIdeal.nD Cert.MixInSIdeal.τ).loc Cert.MixInSIdeal.main_arg2) = m ((c.tc : Thread Cert.MixInSIdeal.nD Cert.MixInSIdeal.τ).loc Cert.MixInSIdeal.main_arg2))
      ∧ r.2.sem = fun _ => 0)

def quiescent_MixInSRefIdeal [hMixInSRefIdeal : Cert.MixInSRefIdeal.Facts] : Prop :=
  ∀ (m : (ℓ : Loc Cert.MixInSRefIdeal.nD Cert.MixInSRefIdeal.τ Cert.MixInSRefIdeal.sig) → Buf (Elt Ideal) ℓ) (g : Dev Cert.MixInSRefIdeal.nD → PrngReg), Pre_MixInSRefIdeal m →
    θ_run (Cert.MixInSRefIdeal.defs (F := Ideal)) (onTc (τ := Cert.MixInSRefIdeal.τ) (Cert.MixInSRefIdeal.main (F := Ideal))) ⟨m, fun _ => 0, g⟩ (fun r => (∀ c : Dev Cert.MixInSRefIdeal.nD,
      r.2.mem ((c.tc : Thread Cert.MixInSRefIdeal.nD Cert.MixInSRefIdeal.τ).loc Cert.MixInSRefIdeal.main_arg0) = m ((c.tc : Thread Cert.MixInSRefIdeal.nD Cert.MixInSRefIdeal.τ).loc Cert.MixInSRefIdeal.main_arg0)
      ∧ r.2.mem ((c.tc : Thread Cert.MixInSRefIdeal.nD Cert.MixInSRefIdeal.τ).loc Cert.MixInSRefIdeal.main_arg1) = m ((c.tc : Thread Cert.MixInSRefIdeal.nD Cert.MixInSRefIdeal.τ).loc Cert.MixInSRefIdeal.main_arg1)
      ∧ r.2.mem ((c.tc : Thread Cert.MixInSRefIdeal.nD Cert.MixInSRefIdeal.τ).loc Cert.MixInSRefIdeal.main_arg2) = m ((c.tc : Thread Cert.MixInSRefIdeal.nD Cert.MixInSRefIdeal.τ).loc Cert.MixInSRefIdeal.main_arg2))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9))
      ∧ r.2.sem = fun _ => 0)

def quiescent_CrossQS [hCrossQS : Cert.CrossQS.Facts] : Prop :=
  ∀ (m : (ℓ : Loc Cert.CrossQS.nD Cert.CrossQS.τ Cert.CrossQS.sig) → Buf (Elt Bits) ℓ) (g : Dev Cert.CrossQS.nD → PrngReg), Pre_CrossQS m →
    θ_run (Cert.CrossQS.defs (F := Bits)) (onTc (τ := Cert.CrossQS.τ) (Cert.CrossQS.main (F := Bits))) ⟨m, fun _ => 0, g⟩ (fun r => (∀ c : Dev Cert.CrossQS.nD,
      r.2.mem ((c.tc : Thread Cert.CrossQS.nD Cert.CrossQS.τ).loc Cert.CrossQS.main_arg0) = m ((c.tc : Thread Cert.CrossQS.nD Cert.CrossQS.τ).loc Cert.CrossQS.main_arg0)
      ∧ r.2.mem ((c.tc : Thread Cert.CrossQS.nD Cert.CrossQS.τ).loc Cert.CrossQS.main_arg1) = m ((c.tc : Thread Cert.CrossQS.nD Cert.CrossQS.τ).loc Cert.CrossQS.main_arg1)
      ∧ r.2.mem ((c.tc : Thread Cert.CrossQS.nD Cert.CrossQS.τ).loc Cert.CrossQS.main_arg2) = m ((c.tc : Thread Cert.CrossQS.nD Cert.CrossQS.τ).loc Cert.CrossQS.main_arg2))
      ∧ r.2.sem = fun _ => 0)

def quiescent_CrossQSIdeal [hCrossQSIdeal : Cert.CrossQSIdeal.Facts] : Prop :=
  ∀ (m : (ℓ : Loc Cert.CrossQSIdeal.nD Cert.CrossQSIdeal.τ Cert.CrossQSIdeal.sig) → Buf (Elt Ideal) ℓ) (g : Dev Cert.CrossQSIdeal.nD → PrngReg), Pre_CrossQSIdeal m →
    θ_run (Cert.CrossQSIdeal.defs (F := Ideal)) (onTc (τ := Cert.CrossQSIdeal.τ) (Cert.CrossQSIdeal.main (F := Ideal))) ⟨m, fun _ => 0, g⟩ (fun r => (∀ c : Dev Cert.CrossQSIdeal.nD,
      r.2.mem ((c.tc : Thread Cert.CrossQSIdeal.nD Cert.CrossQSIdeal.τ).loc Cert.CrossQSIdeal.main_arg0) = m ((c.tc : Thread Cert.CrossQSIdeal.nD Cert.CrossQSIdeal.τ).loc Cert.CrossQSIdeal.main_arg0)
      ∧ r.2.mem ((c.tc : Thread Cert.CrossQSIdeal.nD Cert.CrossQSIdeal.τ).loc Cert.CrossQSIdeal.main_arg1) = m ((c.tc : Thread Cert.CrossQSIdeal.nD Cert.CrossQSIdeal.τ).loc Cert.CrossQSIdeal.main_arg1)
      ∧ r.2.mem ((c.tc : Thread Cert.CrossQSIdeal.nD Cert.CrossQSIdeal.τ).loc Cert.CrossQSIdeal.main_arg2) = m ((c.tc : Thread Cert.CrossQSIdeal.nD Cert.CrossQSIdeal.τ).loc Cert.CrossQSIdeal.main_arg2))
      ∧ r.2.sem = fun _ => 0)

def quiescent_CrossQSRefIdeal [hCrossQSRefIdeal : Cert.CrossQSRefIdeal.Facts] : Prop :=
  ∀ (m : (ℓ : Loc Cert.CrossQSRefIdeal.nD Cert.CrossQSRefIdeal.τ Cert.CrossQSRefIdeal.sig) → Buf (Elt Ideal) ℓ) (g : Dev Cert.CrossQSRefIdeal.nD → PrngReg), Pre_CrossQSRefIdeal m →
    θ_run (Cert.CrossQSRefIdeal.defs (F := Ideal)) (onTc (τ := Cert.CrossQSRefIdeal.τ) (Cert.CrossQSRefIdeal.main (F := Ideal))) ⟨m, fun _ => 0, g⟩ (fun r => (∀ c : Dev Cert.CrossQSRefIdeal.nD,
      r.2.mem ((c.tc : Thread Cert.CrossQSRefIdeal.nD Cert.CrossQSRefIdeal.τ).loc Cert.CrossQSRefIdeal.main_arg0) = m ((c.tc : Thread Cert.CrossQSRefIdeal.nD Cert.CrossQSRefIdeal.τ).loc Cert.CrossQSRefIdeal.main_arg0)
      ∧ r.2.mem ((c.tc : Thread Cert.CrossQSRefIdeal.nD Cert.CrossQSRefIdeal.τ).loc Cert.CrossQSRefIdeal.main_arg1) = m ((c.tc : Thread Cert.CrossQSRefIdeal.nD Cert.CrossQSRefIdeal.τ).loc Cert.CrossQSRefIdeal.main_arg1)
      ∧ r.2.mem ((c.tc : Thread Cert.CrossQSRefIdeal.nD Cert.CrossQSRefIdeal.τ).loc Cert.CrossQSRefIdeal.main_arg2) = m ((c.tc : Thread Cert.CrossQSRefIdeal.nD Cert.CrossQSRefIdeal.τ).loc Cert.CrossQSRefIdeal.main_arg2))
      ∧ r.2.sem = fun _ => 0)

def quiescent_XattnS [hXattnS : Cert.XattnS.Facts] : Prop :=
  ∀ (m : (ℓ : Loc Cert.XattnS.nD Cert.XattnS.τ Cert.XattnS.sig) → Buf (Elt Bits) ℓ) (g : Dev Cert.XattnS.nD → PrngReg), Pre_XattnS m →
    θ_run (Cert.XattnS.defs (F := Bits)) (onTc (τ := Cert.XattnS.τ) (Cert.XattnS.main (F := Bits))) ⟨m, fun _ => 0, g⟩ (fun r => (∀ c : Dev Cert.XattnS.nD,
      r.2.mem ((c.tc : Thread Cert.XattnS.nD Cert.XattnS.τ).loc Cert.XattnS.main_arg0) = m ((c.tc : Thread Cert.XattnS.nD Cert.XattnS.τ).loc Cert.XattnS.main_arg0)
      ∧ r.2.mem ((c.tc : Thread Cert.XattnS.nD Cert.XattnS.τ).loc Cert.XattnS.main_arg1) = m ((c.tc : Thread Cert.XattnS.nD Cert.XattnS.τ).loc Cert.XattnS.main_arg1)
      ∧ r.2.mem ((c.tc : Thread Cert.XattnS.nD Cert.XattnS.τ).loc Cert.XattnS.main_arg2) = m ((c.tc : Thread Cert.XattnS.nD Cert.XattnS.τ).loc Cert.XattnS.main_arg2))
      ∧ r.2.sem = fun _ => 0)

def quiescent_XattnSIdeal [hXattnSIdeal : Cert.XattnSIdeal.Facts] : Prop :=
  ∀ (m : (ℓ : Loc Cert.XattnSIdeal.nD Cert.XattnSIdeal.τ Cert.XattnSIdeal.sig) → Buf (Elt Ideal) ℓ) (g : Dev Cert.XattnSIdeal.nD → PrngReg), Pre_XattnSIdeal m →
    θ_run (Cert.XattnSIdeal.defs (F := Ideal)) (onTc (τ := Cert.XattnSIdeal.τ) (Cert.XattnSIdeal.main (F := Ideal))) ⟨m, fun _ => 0, g⟩ (fun r => (∀ c : Dev Cert.XattnSIdeal.nD,
      r.2.mem ((c.tc : Thread Cert.XattnSIdeal.nD Cert.XattnSIdeal.τ).loc Cert.XattnSIdeal.main_arg0) = m ((c.tc : Thread Cert.XattnSIdeal.nD Cert.XattnSIdeal.τ).loc Cert.XattnSIdeal.main_arg0)
      ∧ r.2.mem ((c.tc : Thread Cert.XattnSIdeal.nD Cert.XattnSIdeal.τ).loc Cert.XattnSIdeal.main_arg1) = m ((c.tc : Thread Cert.XattnSIdeal.nD Cert.XattnSIdeal.τ).loc Cert.XattnSIdeal.main_arg1)
      ∧ r.2.mem ((c.tc : Thread Cert.XattnSIdeal.nD Cert.XattnSIdeal.τ).loc Cert.XattnSIdeal.main_arg2) = m ((c.tc : Thread Cert.XattnSIdeal.nD Cert.XattnSIdeal.τ).loc Cert.XattnSIdeal.main_arg2))
      ∧ r.2.sem = fun _ => 0)

def quiescent_XattnSRefIdeal [hXattnSRefIdeal : Cert.XattnSRefIdeal.Facts] : Prop :=
  ∀ (m : (ℓ : Loc Cert.XattnSRefIdeal.nD Cert.XattnSRefIdeal.τ Cert.XattnSRefIdeal.sig) → Buf (Elt Ideal) ℓ) (g : Dev Cert.XattnSRefIdeal.nD → PrngReg), Pre_XattnSRefIdeal m →
    θ_run (Cert.XattnSRefIdeal.defs (F := Ideal)) (onTc (τ := Cert.XattnSRefIdeal.τ) (Cert.XattnSRefIdeal.main (F := Ideal))) ⟨m, fun _ => 0, g⟩ (fun r => (∀ c : Dev Cert.XattnSRefIdeal.nD,
      r.2.mem ((c.tc : Thread Cert.XattnSRefIdeal.nD Cert.XattnSRefIdeal.τ).loc Cert.XattnSRefIdeal.main_arg0) = m ((c.tc : Thread Cert.XattnSRefIdeal.nD Cert.XattnSRefIdeal.τ).loc Cert.XattnSRefIdeal.main_arg0)
      ∧ r.2.mem ((c.tc : Thread Cert.XattnSRefIdeal.nD Cert.XattnSRefIdeal.τ).loc Cert.XattnSRefIdeal.main_arg1) = m ((c.tc : Thread Cert.XattnSRefIdeal.nD Cert.XattnSRefIdeal.τ).loc Cert.XattnSRefIdeal.main_arg1)
      ∧ r.2.mem ((c.tc : Thread Cert.XattnSRefIdeal.nD Cert.XattnSRefIdeal.τ).loc Cert.XattnSRefIdeal.main_arg2) = m ((c.tc : Thread Cert.XattnSRefIdeal.nD Cert.XattnSRefIdeal.τ).loc Cert.XattnSRefIdeal.main_arg2))
      ∧ r.2.sem = fun _ => 0)

def quiescent_CrossOutS [hCrossOutS : Cert.CrossOutS.Facts] : Prop :=
  ∀ (m : (ℓ : Loc Cert.CrossOutS.nD Cert.CrossOutS.τ Cert.CrossOutS.sig) → Buf (Elt Bits) ℓ) (g : Dev Cert.CrossOutS.nD → PrngReg), Pre_CrossOutS m →
    θ_run (Cert.CrossOutS.defs (F := Bits)) (onTc (τ := Cert.CrossOutS.τ) (Cert.CrossOutS.main (F := Bits))) ⟨m, fun _ => 0, g⟩ (fun r => (∀ c : Dev Cert.CrossOutS.nD,
      r.2.mem ((c.tc : Thread Cert.CrossOutS.nD Cert.CrossOutS.τ).loc Cert.CrossOutS.main_arg0) = m ((c.tc : Thread Cert.CrossOutS.nD Cert.CrossOutS.τ).loc Cert.CrossOutS.main_arg0)
      ∧ r.2.mem ((c.tc : Thread Cert.CrossOutS.nD Cert.CrossOutS.τ).loc Cert.CrossOutS.main_arg1) = m ((c.tc : Thread Cert.CrossOutS.nD Cert.CrossOutS.τ).loc Cert.CrossOutS.main_arg1)
      ∧ r.2.mem ((c.tc : Thread Cert.CrossOutS.nD Cert.CrossOutS.τ).loc Cert.CrossOutS.main_arg2) = m ((c.tc : Thread Cert.CrossOutS.nD Cert.CrossOutS.τ).loc Cert.CrossOutS.main_arg2)
      ∧ r.2.mem ((c.tc : Thread Cert.CrossOutS.nD Cert.CrossOutS.τ).loc Cert.CrossOutS.main_arg3) = m ((c.tc : Thread Cert.CrossOutS.nD Cert.CrossOutS.τ).loc Cert.CrossOutS.main_arg3))
      ∧ r.2.sem = fun _ => 0)

def quiescent_CrossOutSIdeal [hCrossOutSIdeal : Cert.CrossOutSIdeal.Facts] : Prop :=
  ∀ (m : (ℓ : Loc Cert.CrossOutSIdeal.nD Cert.CrossOutSIdeal.τ Cert.CrossOutSIdeal.sig) → Buf (Elt Ideal) ℓ) (g : Dev Cert.CrossOutSIdeal.nD → PrngReg), Pre_CrossOutSIdeal m →
    θ_run (Cert.CrossOutSIdeal.defs (F := Ideal)) (onTc (τ := Cert.CrossOutSIdeal.τ) (Cert.CrossOutSIdeal.main (F := Ideal))) ⟨m, fun _ => 0, g⟩ (fun r => (∀ c : Dev Cert.CrossOutSIdeal.nD,
      r.2.mem ((c.tc : Thread Cert.CrossOutSIdeal.nD Cert.CrossOutSIdeal.τ).loc Cert.CrossOutSIdeal.main_arg0) = m ((c.tc : Thread Cert.CrossOutSIdeal.nD Cert.CrossOutSIdeal.τ).loc Cert.CrossOutSIdeal.main_arg0)
      ∧ r.2.mem ((c.tc : Thread Cert.CrossOutSIdeal.nD Cert.CrossOutSIdeal.τ).loc Cert.CrossOutSIdeal.main_arg1) = m ((c.tc : Thread Cert.CrossOutSIdeal.nD Cert.CrossOutSIdeal.τ).loc Cert.CrossOutSIdeal.main_arg1)
      ∧ r.2.mem ((c.tc : Thread Cert.CrossOutSIdeal.nD Cert.CrossOutSIdeal.τ).loc Cert.CrossOutSIdeal.main_arg2) = m ((c.tc : Thread Cert.CrossOutSIdeal.nD Cert.CrossOutSIdeal.τ).loc Cert.CrossOutSIdeal.main_arg2)
      ∧ r.2.mem ((c.tc : Thread Cert.CrossOutSIdeal.nD Cert.CrossOutSIdeal.τ).loc Cert.CrossOutSIdeal.main_arg3) = m ((c.tc : Thread Cert.CrossOutSIdeal.nD Cert.CrossOutSIdeal.τ).loc Cert.CrossOutSIdeal.main_arg3))
      ∧ r.2.sem = fun _ => 0)

def quiescent_CrossOutSRefIdeal [hCrossOutSRefIdeal : Cert.CrossOutSRefIdeal.Facts] : Prop :=
  ∀ (m : (ℓ : Loc Cert.CrossOutSRefIdeal.nD Cert.CrossOutSRefIdeal.τ Cert.CrossOutSRefIdeal.sig) → Buf (Elt Ideal) ℓ) (g : Dev Cert.CrossOutSRefIdeal.nD → PrngReg), Pre_CrossOutSRefIdeal m →
    θ_run (Cert.CrossOutSRefIdeal.defs (F := Ideal)) (onTc (τ := Cert.CrossOutSRefIdeal.τ) (Cert.CrossOutSRefIdeal.main (F := Ideal))) ⟨m, fun _ => 0, g⟩ (fun r => (∀ c : Dev Cert.CrossOutSRefIdeal.nD,
      r.2.mem ((c.tc : Thread Cert.CrossOutSRefIdeal.nD Cert.CrossOutSRefIdeal.τ).loc Cert.CrossOutSRefIdeal.main_arg0) = m ((c.tc : Thread Cert.CrossOutSRefIdeal.nD Cert.CrossOutSRefIdeal.τ).loc Cert.CrossOutSRefIdeal.main_arg0)
      ∧ r.2.mem ((c.tc : Thread Cert.CrossOutSRefIdeal.nD Cert.CrossOutSRefIdeal.τ).loc Cert.CrossOutSRefIdeal.main_arg1) = m ((c.tc : Thread Cert.CrossOutSRefIdeal.nD Cert.CrossOutSRefIdeal.τ).loc Cert.CrossOutSRefIdeal.main_arg1)
      ∧ r.2.mem ((c.tc : Thread Cert.CrossOutSRefIdeal.nD Cert.CrossOutSRefIdeal.τ).loc Cert.CrossOutSRefIdeal.main_arg2) = m ((c.tc : Thread Cert.CrossOutSRefIdeal.nD Cert.CrossOutSRefIdeal.τ).loc Cert.CrossOutSRefIdeal.main_arg2)
      ∧ r.2.mem ((c.tc : Thread Cert.CrossOutSRefIdeal.nD Cert.CrossOutSRefIdeal.τ).loc Cert.CrossOutSRefIdeal.main_arg3) = m ((c.tc : Thread Cert.CrossOutSRefIdeal.nD Cert.CrossOutSRefIdeal.τ).loc Cert.CrossOutSRefIdeal.main_arg3))
      ∧ r.2.sem = fun _ => 0)

def quiescent_HgrnS [hHgrnS : Cert.HgrnS.Facts] : Prop :=
  ∀ (m : (ℓ : Loc Cert.HgrnS.nD Cert.HgrnS.τ Cert.HgrnS.sig) → Buf (Elt Bits) ℓ) (g : Dev Cert.HgrnS.nD → PrngReg), Pre_HgrnS m →
    θ_run (Cert.HgrnS.defs (F := Bits)) (onTc (τ := Cert.HgrnS.τ) (Cert.HgrnS.main (F := Bits))) ⟨m, fun _ => 0, g⟩ (fun r => (∀ c : Dev Cert.HgrnS.nD,
      r.2.mem ((c.tc : Thread Cert.HgrnS.nD Cert.HgrnS.τ).loc Cert.HgrnS.main_arg0) = m ((c.tc : Thread Cert.HgrnS.nD Cert.HgrnS.τ).loc Cert.HgrnS.main_arg0)
      ∧ r.2.mem ((c.tc : Thread Cert.HgrnS.nD Cert.HgrnS.τ).loc Cert.HgrnS.main_arg1) = m ((c.tc : Thread Cert.HgrnS.nD Cert.HgrnS.τ).loc Cert.HgrnS.main_arg1)
      ∧ r.2.mem ((c.tc : Thread Cert.HgrnS.nD Cert.HgrnS.τ).loc Cert.HgrnS.main_arg2) = m ((c.tc : Thread Cert.HgrnS.nD Cert.HgrnS.τ).loc Cert.HgrnS.main_arg2)
      ∧ r.2.mem ((c.tc : Thread Cert.HgrnS.nD Cert.HgrnS.τ).loc Cert.HgrnS.main_arg3) = m ((c.tc : Thread Cert.HgrnS.nD Cert.HgrnS.τ).loc Cert.HgrnS.main_arg3))
      ∧ r.2.sem = fun _ => 0)

def quiescent_HgrnSIdeal [hHgrnSIdeal : Cert.HgrnSIdeal.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSIdeal_pre_hgrn_domain [hHgrnSIdeal : Cert.HgrnSIdeal.Facts] [hPre_hgrn_domain : Cert.Pre_hgrn_domain.Facts] : Prop :=
  ∀ (m : (ℓ : Loc Cert.HgrnSIdeal.nD Cert.HgrnSIdeal.τ Cert.HgrnSIdeal.sig) → Buf (Elt Ideal) ℓ) (g : Dev Cert.HgrnSIdeal.nD → PrngReg), Pre_HgrnSIdeal_hgrn_domain m →
    θ_run (Cert.HgrnSIdeal.defs (F := Ideal)) (onTc (τ := Cert.HgrnSIdeal.τ) (Cert.HgrnSIdeal.main (F := Ideal))) ⟨m, fun _ => 0, g⟩ (fun r => (∀ c : Dev Cert.HgrnSIdeal.nD,
      r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
      ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
      ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
      ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ r.2.sem = fun _ => 0)

def quiescent_HgrnSRefIdeal [hHgrnSRefIdeal : Cert.HgrnSRefIdeal.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def quiescent_HgrnSRefIdeal_pre_hgrn_domain [hHgrnSRefIdeal : Cert.HgrnSRefIdeal.Facts] [hPre_hgrn_domain : Cert.Pre_hgrn_domain.Facts] : Prop :=
  ∀ (m : (ℓ : Loc Cert.HgrnSRefIdeal.nD Cert.HgrnSRefIdeal.τ Cert.HgrnSRefIdeal.sig) → Buf (Elt Ideal) ℓ) (g : Dev Cert.HgrnSRefIdeal.nD → PrngReg), Pre_HgrnSRefIdeal_hgrn_domain m →
    θ_run (Cert.HgrnSRefIdeal.defs (F := Ideal)) (onTc (τ := Cert.HgrnSRefIdeal.τ) (Cert.HgrnSRefIdeal.main (F := Ideal))) ⟨m, fun _ => 0, g⟩ (fun r => (∀ c : Dev Cert.HgrnSRefIdeal.nD,
      r.2.mem ((c.tc : Thread Cert.HgrnSRefIdeal.nD Cert.HgrnSRefIdeal.τ).loc Cert.HgrnSRefIdeal.main_arg0) = m ((c.tc : Thread Cert.HgrnSRefIdeal.nD Cert.HgrnSRefIdeal.τ).loc Cert.HgrnSRefIdeal.main_arg0)
      ∧ r.2.mem ((c.tc : Thread Cert.HgrnSRefIdeal.nD Cert.HgrnSRefIdeal.τ).loc Cert.HgrnSRefIdeal.main_arg1) = m ((c.tc : Thread Cert.HgrnSRefIdeal.nD Cert.HgrnSRefIdeal.τ).loc Cert.HgrnSRefIdeal.main_arg1)
      ∧ r.2.mem ((c.tc : Thread Cert.HgrnSRefIdeal.nD Cert.HgrnSRefIdeal.τ).loc Cert.HgrnSRefIdeal.main_arg2) = m ((c.tc : Thread Cert.HgrnSRefIdeal.nD Cert.HgrnSRefIdeal.τ).loc Cert.HgrnSRefIdeal.main_arg2)
      ∧ r.2.mem ((c.tc : Thread Cert.HgrnSRefIdeal.nD Cert.HgrnSRefIdeal.τ).loc Cert.HgrnSRefIdeal.main_arg3) = m ((c.tc : Thread Cert.HgrnSRefIdeal.nD Cert.HgrnSRefIdeal.τ).loc Cert.HgrnSRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v10_0)) (v1 : (c : Dev Cert.MixInIdeal.nD) → Buf (Elt Ideal) ((c.tc : Thread Cert.MixInIdeal.nD Cert.MixInIdeal.τ).loc Cert.MixInIdeal.main_v10_1)) (v2 : (c : Dev Cert.MixInIdeal.nD) → Buf (Elt Ideal) ((c.tc : Thread Cert.MixInIdeal.nD Cert.MixInIdeal.τ).loc Cert.MixInIdeal.main_v10_2)) (v3 : (c : Dev Cert.MixInIdeal.nD) → Buf (Elt Ideal) ((c.tc : Thread Cert.MixInIdeal.nD Cert.MixInIdeal.τ).loc Cert.MixInIdeal.main_v10_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v10_0) = v0 c
          ∧ r.2.mem ((c.tc : Thread Cert.MixInIdeal.nD Cert.MixInIdeal.τ).loc Cert.MixInIdeal.main_v10_1) = v1 c
          ∧ r.2.mem ((c.tc : Thread Cert.MixInIdeal.nD Cert.MixInIdeal.τ).loc Cert.MixInIdeal.main_v10_2) = v2 c
          ∧ r.2.mem ((c.tc : Thread Cert.MixInIdeal.nD Cert.MixInIdeal.τ).loc Cert.MixInIdeal.main_v10_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v14) = v0 c
          ∧ r.2.mem ((c.tc : Thread Cert.MixInRefIdeal.nD Cert.MixInRefIdeal.τ).loc Cert.MixInRefIdeal.main_v16) = v1 c
          ∧ r.2.mem ((c.tc : Thread Cert.MixInRefIdeal.nD Cert.MixInRefIdeal.τ).loc Cert.MixInRefIdeal.main_v17) = v2 c
          ∧ r.2.mem ((c.tc : Thread Cert.MixInRefIdeal.nD Cert.MixInRefIdeal.τ).loc Cert.MixInRefIdeal.main_v18) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_CrossQ_CrossQIdeal : Prop :=
  True

def algebraic_CrossQIdeal_CrossQRefIdeal [hCrossQIdeal : Cert.CrossQIdeal.Facts] [hCrossQRefIdeal : Cert.CrossQRefIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQRefIdeal.nD Cert.CrossQRefIdeal.τ Cert.CrossQRefIdeal.sig) → Buf (Elt Ideal) ℓ) (g' : Dev Cert.CrossQRefIdeal.nD → PrngReg), Pre_CrossQIdeal m →
    (∀ c : Dev Cert.CrossQIdeal.nD,
      m' ((c.tc : Thread Cert.CrossQRefIdeal.nD Cert.CrossQRefIdeal.τ).loc Cert.CrossQRefIdeal.main_arg0) = m ((c.tc : Thread Cert.CrossQIdeal.nD Cert.CrossQIdeal.τ).loc Cert.CrossQIdeal.main_arg0)
      ∧ m' ((c.tc : Thread Cert.CrossQRefIdeal.nD Cert.CrossQRefIdeal.τ).loc Cert.CrossQRefIdeal.main_arg1) = m ((c.tc : Thread Cert.CrossQIdeal.nD Cert.CrossQIdeal.τ).loc Cert.CrossQIdeal.main_arg1)
      ∧ m' ((c.tc : Thread Cert.CrossQRefIdeal.nD Cert.CrossQRefIdeal.τ).loc Cert.CrossQRefIdeal.main_arg2) = m ((c.tc : Thread Cert.CrossQIdeal.nD Cert.CrossQIdeal.τ).loc Cert.CrossQIdeal.main_arg2)) →
    ∃ (v0 : (c : Dev Cert.CrossQIdeal.nD) → Buf (Elt Ideal) ((c.tc : Thread Cert.CrossQIdeal.nD Cert.CrossQIdeal.τ).loc Cert.CrossQIdeal.main_v2)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v2) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1)
          ∧ r.2.mem ((c.tc : Thread Cert.CrossQIdeal.nD Cert.CrossQIdeal.τ).loc Cert.CrossQIdeal.main_arg2) = m ((c.tc : Thread Cert.CrossQIdeal.nD Cert.CrossQIdeal.τ).loc Cert.CrossQIdeal.main_arg2))
      ∧ θ_run (Cert.CrossQRefIdeal.defs (F := Ideal)) (onTc (τ := Cert.CrossQRefIdeal.τ) (Cert.CrossQRefIdeal.main (F := Ideal))) ⟨m', fun _ => 0, g'⟩ (fun r => ∀ c : Dev Cert.CrossQRefIdeal.nD,
          r.2.mem ((c.tc : Thread Cert.CrossQRefIdeal.nD Cert.CrossQRefIdeal.τ).loc Cert.CrossQRefIdeal.main_v13) = v0 c
          ∧ r.2.mem ((c.tc : Thread Cert.CrossQRefIdeal.nD Cert.CrossQRefIdeal.τ).loc Cert.CrossQRefIdeal.main_arg0) = m' ((c.tc : Thread Cert.CrossQRefIdeal.nD Cert.CrossQRefIdeal.τ).loc Cert.CrossQRefIdeal.main_arg0)
          ∧ r.2.mem ((c.tc : Thread Cert.CrossQRefIdeal.nD Cert.CrossQRefIdeal.τ).loc Cert.CrossQRefIdeal.main_arg1) = m' ((c.tc : Thread Cert.CrossQRefIdeal.nD Cert.CrossQRefIdeal.τ).loc Cert.CrossQRefIdeal.main_arg1)
          ∧ r.2.mem ((c.tc : Thread Cert.CrossQRefIdeal.nD Cert.CrossQRefIdeal.τ).loc Cert.CrossQRefIdeal.main_arg2) = m' ((c.tc : Thread Cert.CrossQRefIdeal.nD Cert.CrossQRefIdeal.τ).loc Cert.CrossQRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)) →
    ∃ (v0 : (c : Dev Cert.XattnIdeal.nD) → Buf (Elt Ideal) ((c.tc : Thread Cert.XattnIdeal.nD Cert.XattnIdeal.τ).loc Cert.XattnIdeal.main_v0)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v0) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v21) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1))

def preserves_CrossOut_CrossOutIdeal : Prop :=
  True

def algebraic_CrossOutIdeal_CrossOutRefIdeal [hCrossOutIdeal : Cert.CrossOutIdeal.Facts] [hCrossOutRefIdeal : Cert.CrossOutRefIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutRefIdeal.nD Cert.CrossOutRefIdeal.τ Cert.CrossOutRefIdeal.sig) → Buf (Elt Ideal) ℓ) (g' : Dev Cert.CrossOutRefIdeal.nD → PrngReg), Pre_CrossOutIdeal m →
    (∀ c : Dev Cert.CrossOutIdeal.nD,
      m' ((c.tc : Thread Cert.CrossOutRefIdeal.nD Cert.CrossOutRefIdeal.τ).loc Cert.CrossOutRefIdeal.main_arg0) = m ((c.tc : Thread Cert.CrossOutIdeal.nD Cert.CrossOutIdeal.τ).loc Cert.CrossOutIdeal.main_arg0)
      ∧ m' ((c.tc : Thread Cert.CrossOutRefIdeal.nD Cert.CrossOutRefIdeal.τ).loc Cert.CrossOutRefIdeal.main_arg1) = m ((c.tc : Thread Cert.CrossOutIdeal.nD Cert.CrossOutIdeal.τ).loc Cert.CrossOutIdeal.main_arg1)
      ∧ m' ((c.tc : Thread Cert.CrossOutRefIdeal.nD Cert.CrossOutRefIdeal.τ).loc Cert.CrossOutRefIdeal.main_arg2) = m ((c.tc : Thread Cert.CrossOutIdeal.nD Cert.CrossOutIdeal.τ).loc Cert.CrossOutIdeal.main_arg2)
      ∧ m' ((c.tc : Thread Cert.CrossOutRefIdeal.nD Cert.CrossOutRefIdeal.τ).loc Cert.CrossOutRefIdeal.main_arg3) = m ((c.tc : Thread Cert.CrossOutIdeal.nD Cert.CrossOutIdeal.τ).loc Cert.CrossOutIdeal.main_arg3)) →
    ∃ (v0 : (c : Dev Cert.CrossOutIdeal.nD) → Buf (Elt Ideal) ((c.tc : Thread Cert.CrossOutIdeal.nD Cert.CrossOutIdeal.τ).loc Cert.CrossOutIdeal.main_v2)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v2) = v0 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
          ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3))
      ∧ θ_run (Cert.CrossOutRefIdeal.defs (F := Ideal)) (onTc (τ := Cert.CrossOutRefIdeal.τ) (Cert.CrossOutRefIdeal.main (F := Ideal))) ⟨m', fun _ => 0, g'⟩ (fun r => ∀ c : Dev Cert.CrossOutRefIdeal.nD,
          r.2.mem ((c.tc : Thread Cert.CrossOutRefIdeal.nD Cert.CrossOutRefIdeal.τ).loc Cert.CrossOutRefIdeal.main_v14) = v0 c
          ∧ r.2.mem ((c.tc : Thread Cert.CrossOutRefIdeal.nD Cert.CrossOutRefIdeal.τ).loc Cert.CrossOutRefIdeal.main_arg0) = m' ((c.tc : Thread Cert.CrossOutRefIdeal.nD Cert.CrossOutRefIdeal.τ).loc Cert.CrossOutRefIdeal.main_arg0)
          ∧ r.2.mem ((c.tc : Thread Cert.CrossOutRefIdeal.nD Cert.CrossOutRefIdeal.τ).loc Cert.CrossOutRefIdeal.main_arg1) = m' ((c.tc : Thread Cert.CrossOutRefIdeal.nD Cert.CrossOutRefIdeal.τ).loc Cert.CrossOutRefIdeal.main_arg1)
          ∧ r.2.mem ((c.tc : Thread Cert.CrossOutRefIdeal.nD Cert.CrossOutRefIdeal.τ).loc Cert.CrossOutRefIdeal.main_arg2) = m' ((c.tc : Thread Cert.CrossOutRefIdeal.nD Cert.CrossOutRefIdeal.τ).loc Cert.CrossOutRefIdeal.main_arg2)
          ∧ r.2.mem ((c.tc : Thread Cert.CrossOutRefIdeal.nD Cert.CrossOutRefIdeal.τ).loc Cert.CrossOutRefIdeal.main_arg3) = m' ((c.tc : Thread Cert.CrossOutRefIdeal.nD Cert.CrossOutRefIdeal.τ).loc Cert.CrossOutRefIdeal.main_arg3))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v4)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v4) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v34) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_MixInS_MixInSIdeal : Prop :=
  True

def algebraic_MixInSIdeal_MixInSRefIdeal [hMixInSIdeal : Cert.MixInSIdeal.Facts] [hMixInSRefIdeal : Cert.MixInSRefIdeal.Facts] : Prop :=
  ∀ (m : (ℓ : Loc Cert.MixInSIdeal.nD Cert.MixInSIdeal.τ Cert.MixInSIdeal.sig) → Buf (Elt Ideal) ℓ) (g : Dev Cert.MixInSIdeal.nD → PrngReg)
    (m' : (ℓ : Loc Cert.MixInSRefIdeal.nD Cert.MixInSRefIdeal.τ Cert.MixInSRefIdeal.sig) → Buf (Elt Ideal) ℓ) (g' : Dev Cert.MixInSRefIdeal.nD → PrngReg), Pre_MixInSIdeal m →
    (∀ c : Dev Cert.MixInSIdeal.nD,
      m' ((c.tc : Thread Cert.MixInSRefIdeal.nD Cert.MixInSRefIdeal.τ).loc Cert.MixInSRefIdeal.main_arg0) = m ((c.tc : Thread Cert.MixInSIdeal.nD Cert.MixInSIdeal.τ).loc Cert.MixInSIdeal.main_arg0)
      ∧ m' ((c.tc : Thread Cert.MixInSRefIdeal.nD Cert.MixInSRefIdeal.τ).loc Cert.MixInSRefIdeal.main_arg1) = m ((c.tc : Thread Cert.MixInSIdeal.nD Cert.MixInSIdeal.τ).loc Cert.MixInSIdeal.main_arg1)
      ∧ m' ((c.tc : Thread Cert.MixInSRefIdeal.nD Cert.MixInSRefIdeal.τ).loc Cert.MixInSRefIdeal.main_arg2) = m ((c.tc : Thread Cert.MixInSIdeal.nD Cert.MixInSIdeal.τ).loc Cert.MixInSIdeal.main_arg2)) →
    ∃ (v0 : (c : Dev Cert.MixInSIdeal.nD) → Buf (Elt Ideal) ((c.tc : Thread Cert.MixInSIdeal.nD Cert.MixInSIdeal.τ).loc Cert.MixInSIdeal.main_v10_0)) (v1 : (c : Dev Cert.MixInSIdeal.nD) → Buf (Elt Ideal) ((c.tc : Thread Cert.MixInSIdeal.nD Cert.MixInSIdeal.τ).loc Cert.MixInSIdeal.main_v10_1)) (v2 : (c : Dev Cert.MixInSIdeal.nD) → Buf (Elt Ideal) ((c.tc : Thread Cert.MixInSIdeal.nD Cert.MixInSIdeal.τ).loc Cert.MixInSIdeal.main_v10_2)) (v3 : (c : Dev Cert.MixInSIdeal.nD) → Buf (Elt Ideal) ((c.tc : Thread Cert.MixInSIdeal.nD Cert.MixInSIdeal.τ).loc Cert.MixInSIdeal.main_v10_3)),
      θ_run (Cert.MixInSIdeal.defs (F := Ideal)) (onTc (τ := Cert.MixInSIdeal.τ) (Cert.MixInSIdeal.main (F := Ideal))) ⟨m, fun _ => 0, g⟩ (fun r => ∀ c : Dev Cert.MixInSIdeal.nD,
          r.2.mem ((c.tc : Thread Cert.MixInSIdeal.nD Cert.MixInSIdeal.τ).loc Cert.MixInSIdeal.main_v10_0) = v0 c
          ∧ r.2.mem ((c.tc : Thread Cert.MixInSIdeal.nD Cert.MixInSIdeal.τ).loc Cert.MixInSIdeal.main_v10_1) = v1 c
          ∧ r.2.mem ((c.tc : Thread Cert.MixInSIdeal.nD Cert.MixInSIdeal.τ).loc Cert.MixInSIdeal.main_v10_2) = v2 c
          ∧ r.2.mem ((c.tc : Thread Cert.MixInSIdeal.nD Cert.MixInSIdeal.τ).loc Cert.MixInSIdeal.main_v10_3) = v3 c
          ∧ r.2.mem ((c.tc : Thread Cert.MixInSIdeal.nD Cert.MixInSIdeal.τ).loc Cert.MixInSIdeal.main_arg0) = m ((c.tc : Thread Cert.MixInSIdeal.nD Cert.MixInSIdeal.τ).loc Cert.MixInSIdeal.main_arg0)
          ∧ r.2.mem ((c.tc : Thread Cert.MixInSIdeal.nD Cert.MixInSIdeal.τ).loc Cert.MixInSIdeal.main_arg1) = m ((c.tc : Thread Cert.MixInSIdeal.nD Cert.MixInSIdeal.τ).loc Cert.MixInSIdeal.main_arg1)
          ∧ r.2.mem ((c.tc : Thread Cert.MixInSIdeal.nD Cert.MixInSIdeal.τ).loc Cert.MixInSIdeal.main_arg2) = m ((c.tc : Thread Cert.MixInSIdeal.nD Cert.MixInSIdeal.τ).loc Cert.MixInSIdeal.main_arg2))
      ∧ θ_run (Cert.MixInSRefIdeal.defs (F := Ideal)) (onTc (τ := Cert.MixInSRefIdeal.τ) (Cert.MixInSRefIdeal.main (F := Ideal))) ⟨m', fun _ => 0, g'⟩ (fun r => ∀ c : Dev Cert.MixInSRefIdeal.nD,
          r.2.mem ((c.tc : Thread Cert.MixInSRefIdeal.nD Cert.MixInSRefIdeal.τ).loc Cert.MixInSRefIdeal.main_v14) = v0 c
          ∧ r.2.mem ((c.tc : Thread Cert.MixInSRefIdeal.nD Cert.MixInSRefIdeal.τ).loc Cert.MixInSRefIdeal.main_v16) = v1 c
          ∧ r.2.mem ((c.tc : Thread Cert.MixInSRefIdeal.nD Cert.MixInSRefIdeal.τ).loc Cert.MixInSRefIdeal.main_v17) = v2 c
          ∧ r.2.mem ((c.tc : Thread Cert.MixInSRefIdeal.nD Cert.MixInSRefIdeal.τ).loc Cert.MixInSRefIdeal.main_v18) = v3 c
          ∧ r.2.mem ((c.tc : Thread Cert.MixInSRefIdeal.nD Cert.MixInSRefIdeal.τ).loc Cert.MixInSRefIdeal.main_arg0) = m' ((c.tc : Thread Cert.MixInSRefIdeal.nD Cert.MixInSRefIdeal.τ).loc Cert.MixInSRefIdeal.main_arg0)
          ∧ r.2.mem ((c.tc : Thread Cert.MixInSRefIdeal.nD Cert.MixInSRefIdeal.τ).loc Cert.MixInSRefIdeal.main_arg1) = m' ((c.tc : Thread Cert.MixInSRefIdeal.nD Cert.MixInSRefIdeal.τ).loc Cert.MixInSRefIdeal.main_arg1)
          ∧ r.2.mem ((c.tc : Thread Cert.MixInSRefIdeal.nD Cert.MixInSRefIdeal.τ).loc Cert.MixInSRefIdeal.main_arg2) = m' ((c.tc : Thread Cert.MixInSRefIdeal.nD Cert.MixInSRefIdeal.τ).loc Cert.MixInSRefIdeal.main_arg2))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)) →
    ∃ (v0 : (c : Dev Cert.MergeSIdeal.nD) → Buf (Elt Ideal) ((c.tc : Thread Cert.MergeSIdeal.nD Cert.MergeSIdeal.τ).loc Cert.MergeSIdeal.main_v5)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v5) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v35) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9))

def preserves_CrossQS_CrossQSIdeal : Prop :=
  True

def algebraic_CrossQSIdeal_CrossQSRefIdeal [hCrossQSIdeal : Cert.CrossQSIdeal.Facts] [hCrossQSRefIdeal : Cert.CrossQSRefIdeal.Facts] : Prop :=
  ∀ (m : (ℓ : Loc Cert.CrossQSIdeal.nD Cert.CrossQSIdeal.τ Cert.CrossQSIdeal.sig) → Buf (Elt Ideal) ℓ) (g : Dev Cert.CrossQSIdeal.nD → PrngReg)
    (m' : (ℓ : Loc Cert.CrossQSRefIdeal.nD Cert.CrossQSRefIdeal.τ Cert.CrossQSRefIdeal.sig) → Buf (Elt Ideal) ℓ) (g' : Dev Cert.CrossQSRefIdeal.nD → PrngReg), Pre_CrossQSIdeal m →
    (∀ c : Dev Cert.CrossQSIdeal.nD,
      m' ((c.tc : Thread Cert.CrossQSRefIdeal.nD Cert.CrossQSRefIdeal.τ).loc Cert.CrossQSRefIdeal.main_arg0) = m ((c.tc : Thread Cert.CrossQSIdeal.nD Cert.CrossQSIdeal.τ).loc Cert.CrossQSIdeal.main_arg0)
      ∧ m' ((c.tc : Thread Cert.CrossQSRefIdeal.nD Cert.CrossQSRefIdeal.τ).loc Cert.CrossQSRefIdeal.main_arg1) = m ((c.tc : Thread Cert.CrossQSIdeal.nD Cert.CrossQSIdeal.τ).loc Cert.CrossQSIdeal.main_arg1)
      ∧ m' ((c.tc : Thread Cert.CrossQSRefIdeal.nD Cert.CrossQSRefIdeal.τ).loc Cert.CrossQSRefIdeal.main_arg2) = m ((c.tc : Thread Cert.CrossQSIdeal.nD Cert.CrossQSIdeal.τ).loc Cert.CrossQSIdeal.main_arg2)) →
    ∃ (v0 : (c : Dev Cert.CrossQSIdeal.nD) → Buf (Elt Ideal) ((c.tc : Thread Cert.CrossQSIdeal.nD Cert.CrossQSIdeal.τ).loc Cert.CrossQSIdeal.main_v2)),
      θ_run (Cert.CrossQSIdeal.defs (F := Ideal)) (onTc (τ := Cert.CrossQSIdeal.τ) (Cert.CrossQSIdeal.main (F := Ideal))) ⟨m, fun _ => 0, g⟩ (fun r => ∀ c : Dev Cert.CrossQSIdeal.nD,
          r.2.mem ((c.tc : Thread Cert.CrossQSIdeal.nD Cert.CrossQSIdeal.τ).loc Cert.CrossQSIdeal.main_v2) = v0 c
          ∧ r.2.mem ((c.tc : Thread Cert.CrossQSIdeal.nD Cert.CrossQSIdeal.τ).loc Cert.CrossQSIdeal.main_arg0) = m ((c.tc : Thread Cert.CrossQSIdeal.nD Cert.CrossQSIdeal.τ).loc Cert.CrossQSIdeal.main_arg0)
          ∧ r.2.mem ((c.tc : Thread Cert.CrossQSIdeal.nD Cert.CrossQSIdeal.τ).loc Cert.CrossQSIdeal.main_arg1) = m ((c.tc : Thread Cert.CrossQSIdeal.nD Cert.CrossQSIdeal.τ).loc Cert.CrossQSIdeal.main_arg1)
          ∧ r.2.mem ((c.tc : Thread Cert.CrossQSIdeal.nD Cert.CrossQSIdeal.τ).loc Cert.CrossQSIdeal.main_arg2) = m ((c.tc : Thread Cert.CrossQSIdeal.nD Cert.CrossQSIdeal.τ).loc Cert.CrossQSIdeal.main_arg2))
      ∧ θ_run (Cert.CrossQSRefIdeal.defs (F := Ideal)) (onTc (τ := Cert.CrossQSRefIdeal.τ) (Cert.CrossQSRefIdeal.main (F := Ideal))) ⟨m', fun _ => 0, g'⟩ (fun r => ∀ c : Dev Cert.CrossQSRefIdeal.nD,
          r.2.mem ((c.tc : Thread Cert.CrossQSRefIdeal.nD Cert.CrossQSRefIdeal.τ).loc Cert.CrossQSRefIdeal.main_v13) = v0 c
          ∧ r.2.mem ((c.tc : Thread Cert.CrossQSRefIdeal.nD Cert.CrossQSRefIdeal.τ).loc Cert.CrossQSRefIdeal.main_arg0) = m' ((c.tc : Thread Cert.CrossQSRefIdeal.nD Cert.CrossQSRefIdeal.τ).loc Cert.CrossQSRefIdeal.main_arg0)
          ∧ r.2.mem ((c.tc : Thread Cert.CrossQSRefIdeal.nD Cert.CrossQSRefIdeal.τ).loc Cert.CrossQSRefIdeal.main_arg1) = m' ((c.tc : Thread Cert.CrossQSRefIdeal.nD Cert.CrossQSRefIdeal.τ).loc Cert.CrossQSRefIdeal.main_arg1)
          ∧ r.2.mem ((c.tc : Thread Cert.CrossQSRefIdeal.nD Cert.CrossQSRefIdeal.τ).loc Cert.CrossQSRefIdeal.main_arg2) = m' ((c.tc : Thread Cert.CrossQSRefIdeal.nD Cert.CrossQSRefIdeal.τ).loc Cert.CrossQSRefIdeal.main_arg2))

def preserves_XattnS_XattnSIdeal : Prop :=
  True

def algebraic_XattnSIdeal_XattnSRefIdeal [hXattnSIdeal : Cert.XattnSIdeal.Facts] [hXattnSRefIdeal : Cert.XattnSRefIdeal.Facts] : Prop :=
  ∀ (m : (ℓ : Loc Cert.XattnSIdeal.nD Cert.XattnSIdeal.τ Cert.XattnSIdeal.sig) → Buf (Elt Ideal) ℓ) (g : Dev Cert.XattnSIdeal.nD → PrngReg)
    (m' : (ℓ : Loc Cert.XattnSRefIdeal.nD Cert.XattnSRefIdeal.τ Cert.XattnSRefIdeal.sig) → Buf (Elt Ideal) ℓ) (g' : Dev Cert.XattnSRefIdeal.nD → PrngReg), Pre_XattnSIdeal m →
    (∀ c : Dev Cert.XattnSIdeal.nD,
      m' ((c.tc : Thread Cert.XattnSRefIdeal.nD Cert.XattnSRefIdeal.τ).loc Cert.XattnSRefIdeal.main_arg0) = m ((c.tc : Thread Cert.XattnSIdeal.nD Cert.XattnSIdeal.τ).loc Cert.XattnSIdeal.main_arg0)
      ∧ m' ((c.tc : Thread Cert.XattnSRefIdeal.nD Cert.XattnSRefIdeal.τ).loc Cert.XattnSRefIdeal.main_arg1) = m ((c.tc : Thread Cert.XattnSIdeal.nD Cert.XattnSIdeal.τ).loc Cert.XattnSIdeal.main_arg1)
      ∧ m' ((c.tc : Thread Cert.XattnSRefIdeal.nD Cert.XattnSRefIdeal.τ).loc Cert.XattnSRefIdeal.main_arg2) = m ((c.tc : Thread Cert.XattnSIdeal.nD Cert.XattnSIdeal.τ).loc Cert.XattnSIdeal.main_arg2)) →
    ∃ (v0 : (c : Dev Cert.XattnSIdeal.nD) → Buf (Elt Ideal) ((c.tc : Thread Cert.XattnSIdeal.nD Cert.XattnSIdeal.τ).loc Cert.XattnSIdeal.main_v0)),
      θ_run (Cert.XattnSIdeal.defs (F := Ideal)) (onTc (τ := Cert.XattnSIdeal.τ) (Cert.XattnSIdeal.main (F := Ideal))) ⟨m, fun _ => 0, g⟩ (fun r => ∀ c : Dev Cert.XattnSIdeal.nD,
          r.2.mem ((c.tc : Thread Cert.XattnSIdeal.nD Cert.XattnSIdeal.τ).loc Cert.XattnSIdeal.main_v0) = v0 c
          ∧ r.2.mem ((c.tc : Thread Cert.XattnSIdeal.nD Cert.XattnSIdeal.τ).loc Cert.XattnSIdeal.main_arg0) = m ((c.tc : Thread Cert.XattnSIdeal.nD Cert.XattnSIdeal.τ).loc Cert.XattnSIdeal.main_arg0)
          ∧ r.2.mem ((c.tc : Thread Cert.XattnSIdeal.nD Cert.XattnSIdeal.τ).loc Cert.XattnSIdeal.main_arg1) = m ((c.tc : Thread Cert.XattnSIdeal.nD Cert.XattnSIdeal.τ).loc Cert.XattnSIdeal.main_arg1)
          ∧ r.2.mem ((c.tc : Thread Cert.XattnSIdeal.nD Cert.XattnSIdeal.τ).loc Cert.XattnSIdeal.main_arg2) = m ((c.tc : Thread Cert.XattnSIdeal.nD Cert.XattnSIdeal.τ).loc Cert.XattnSIdeal.main_arg2))
      ∧ θ_run (Cert.XattnSRefIdeal.defs (F := Ideal)) (onTc (τ := Cert.XattnSRefIdeal.τ) (Cert.XattnSRefIdeal.main (F := Ideal))) ⟨m', fun _ => 0, g'⟩ (fun r => ∀ c : Dev Cert.XattnSRefIdeal.nD,
          r.2.mem ((c.tc : Thread Cert.XattnSRefIdeal.nD Cert.XattnSRefIdeal.τ).loc Cert.XattnSRefIdeal.main_v19) = v0 c
          ∧ r.2.mem ((c.tc : Thread Cert.XattnSRefIdeal.nD Cert.XattnSRefIdeal.τ).loc Cert.XattnSRefIdeal.main_arg0) = m' ((c.tc : Thread Cert.XattnSRefIdeal.nD Cert.XattnSRefIdeal.τ).loc Cert.XattnSRefIdeal.main_arg0)
          ∧ r.2.mem ((c.tc : Thread Cert.XattnSRefIdeal.nD Cert.XattnSRefIdeal.τ).loc Cert.XattnSRefIdeal.main_arg1) = m' ((c.tc : Thread Cert.XattnSRefIdeal.nD Cert.XattnSRefIdeal.τ).loc Cert.XattnSRefIdeal.main_arg1)
          ∧ r.2.mem ((c.tc : Thread Cert.XattnSRefIdeal.nD Cert.XattnSRefIdeal.τ).loc Cert.XattnSRefIdeal.main_arg2) = m' ((c.tc : Thread Cert.XattnSRefIdeal.nD Cert.XattnSRefIdeal.τ).loc Cert.XattnSRefIdeal.main_arg2))

def preserves_CrossOutS_CrossOutSIdeal : Prop :=
  True

def algebraic_CrossOutSIdeal_CrossOutSRefIdeal [hCrossOutSIdeal : Cert.CrossOutSIdeal.Facts] [hCrossOutSRefIdeal : Cert.CrossOutSRefIdeal.Facts] : Prop :=
  ∀ (m : (ℓ : Loc Cert.CrossOutSIdeal.nD Cert.CrossOutSIdeal.τ Cert.CrossOutSIdeal.sig) → Buf (Elt Ideal) ℓ) (g : Dev Cert.CrossOutSIdeal.nD → PrngReg)
    (m' : (ℓ : Loc Cert.CrossOutSRefIdeal.nD Cert.CrossOutSRefIdeal.τ Cert.CrossOutSRefIdeal.sig) → Buf (Elt Ideal) ℓ) (g' : Dev Cert.CrossOutSRefIdeal.nD → PrngReg), Pre_CrossOutSIdeal m →
    (∀ c : Dev Cert.CrossOutSIdeal.nD,
      m' ((c.tc : Thread Cert.CrossOutSRefIdeal.nD Cert.CrossOutSRefIdeal.τ).loc Cert.CrossOutSRefIdeal.main_arg0) = m ((c.tc : Thread Cert.CrossOutSIdeal.nD Cert.CrossOutSIdeal.τ).loc Cert.CrossOutSIdeal.main_arg0)
      ∧ m' ((c.tc : Thread Cert.CrossOutSRefIdeal.nD Cert.CrossOutSRefIdeal.τ).loc Cert.CrossOutSRefIdeal.main_arg1) = m ((c.tc : Thread Cert.CrossOutSIdeal.nD Cert.CrossOutSIdeal.τ).loc Cert.CrossOutSIdeal.main_arg1)
      ∧ m' ((c.tc : Thread Cert.CrossOutSRefIdeal.nD Cert.CrossOutSRefIdeal.τ).loc Cert.CrossOutSRefIdeal.main_arg2) = m ((c.tc : Thread Cert.CrossOutSIdeal.nD Cert.CrossOutSIdeal.τ).loc Cert.CrossOutSIdeal.main_arg2)
      ∧ m' ((c.tc : Thread Cert.CrossOutSRefIdeal.nD Cert.CrossOutSRefIdeal.τ).loc Cert.CrossOutSRefIdeal.main_arg3) = m ((c.tc : Thread Cert.CrossOutSIdeal.nD Cert.CrossOutSIdeal.τ).loc Cert.CrossOutSIdeal.main_arg3)) →
    ∃ (v0 : (c : Dev Cert.CrossOutSIdeal.nD) → Buf (Elt Ideal) ((c.tc : Thread Cert.CrossOutSIdeal.nD Cert.CrossOutSIdeal.τ).loc Cert.CrossOutSIdeal.main_v2)),
      θ_run (Cert.CrossOutSIdeal.defs (F := Ideal)) (onTc (τ := Cert.CrossOutSIdeal.τ) (Cert.CrossOutSIdeal.main (F := Ideal))) ⟨m, fun _ => 0, g⟩ (fun r => ∀ c : Dev Cert.CrossOutSIdeal.nD,
          r.2.mem ((c.tc : Thread Cert.CrossOutSIdeal.nD Cert.CrossOutSIdeal.τ).loc Cert.CrossOutSIdeal.main_v2) = v0 c
          ∧ r.2.mem ((c.tc : Thread Cert.CrossOutSIdeal.nD Cert.CrossOutSIdeal.τ).loc Cert.CrossOutSIdeal.main_arg0) = m ((c.tc : Thread Cert.CrossOutSIdeal.nD Cert.CrossOutSIdeal.τ).loc Cert.CrossOutSIdeal.main_arg0)
          ∧ r.2.mem ((c.tc : Thread Cert.CrossOutSIdeal.nD Cert.CrossOutSIdeal.τ).loc Cert.CrossOutSIdeal.main_arg1) = m ((c.tc : Thread Cert.CrossOutSIdeal.nD Cert.CrossOutSIdeal.τ).loc Cert.CrossOutSIdeal.main_arg1)
          ∧ r.2.mem ((c.tc : Thread Cert.CrossOutSIdeal.nD Cert.CrossOutSIdeal.τ).loc Cert.CrossOutSIdeal.main_arg2) = m ((c.tc : Thread Cert.CrossOutSIdeal.nD Cert.CrossOutSIdeal.τ).loc Cert.CrossOutSIdeal.main_arg2)
          ∧ r.2.mem ((c.tc : Thread Cert.CrossOutSIdeal.nD Cert.CrossOutSIdeal.τ).loc Cert.CrossOutSIdeal.main_arg3) = m ((c.tc : Thread Cert.CrossOutSIdeal.nD Cert.CrossOutSIdeal.τ).loc Cert.CrossOutSIdeal.main_arg3))
      ∧ θ_run (Cert.CrossOutSRefIdeal.defs (F := Ideal)) (onTc (τ := Cert.CrossOutSRefIdeal.τ) (Cert.CrossOutSRefIdeal.main (F := Ideal))) ⟨m', fun _ => 0, g'⟩ (fun r => ∀ c : Dev Cert.CrossOutSRefIdeal.nD,
          r.2.mem ((c.tc : Thread Cert.CrossOutSRefIdeal.nD Cert.CrossOutSRefIdeal.τ).loc Cert.CrossOutSRefIdeal.main_v14) = v0 c
          ∧ r.2.mem ((c.tc : Thread Cert.CrossOutSRefIdeal.nD Cert.CrossOutSRefIdeal.τ).loc Cert.CrossOutSRefIdeal.main_arg0) = m' ((c.tc : Thread Cert.CrossOutSRefIdeal.nD Cert.CrossOutSRefIdeal.τ).loc Cert.CrossOutSRefIdeal.main_arg0)
          ∧ r.2.mem ((c.tc : Thread Cert.CrossOutSRefIdeal.nD Cert.CrossOutSRefIdeal.τ).loc Cert.CrossOutSRefIdeal.main_arg1) = m' ((c.tc : Thread Cert.CrossOutSRefIdeal.nD Cert.CrossOutSRefIdeal.τ).loc Cert.CrossOutSRefIdeal.main_arg1)
          ∧ r.2.mem ((c.tc : Thread Cert.CrossOutSRefIdeal.nD Cert.CrossOutSRefIdeal.τ).loc Cert.CrossOutSRefIdeal.main_arg2) = m' ((c.tc : Thread Cert.CrossOutSRefIdeal.nD Cert.CrossOutSRefIdeal.τ).loc Cert.CrossOutSRefIdeal.main_arg2)
          ∧ r.2.mem ((c.tc : Thread Cert.CrossOutSRefIdeal.nD Cert.CrossOutSRefIdeal.τ).loc Cert.CrossOutSRefIdeal.main_arg3) = m' ((c.tc : Thread Cert.CrossOutSRefIdeal.nD Cert.CrossOutSRefIdeal.τ).loc Cert.CrossOutSRefIdeal.main_arg3))

def preserves_HgrnS_HgrnSIdeal : Prop :=
  True

def algebraic_HgrnSIdeal_HgrnSRefIdeal_pre_hgrn_domain [hHgrnSIdeal : Cert.HgrnSIdeal.Facts] [hHgrnSRefIdeal : Cert.HgrnSRefIdeal.Facts] [hPre_hgrn_domain : Cert.Pre_hgrn_domain.Facts] : Prop :=
  ∀ (m : (ℓ : Loc Cert.HgrnSIdeal.nD Cert.HgrnSIdeal.τ Cert.HgrnSIdeal.sig) → Buf (Elt Ideal) ℓ) (g : Dev Cert.HgrnSIdeal.nD → PrngReg)
    (m' : (ℓ : Loc Cert.HgrnSRefIdeal.nD Cert.HgrnSRefIdeal.τ Cert.HgrnSRefIdeal.sig) → Buf (Elt Ideal) ℓ) (g' : Dev Cert.HgrnSRefIdeal.nD → PrngReg), Pre_HgrnSIdeal_hgrn_domain m →
    (∀ c : Dev Cert.HgrnSIdeal.nD,
      m' ((c.tc : Thread Cert.HgrnSRefIdeal.nD Cert.HgrnSRefIdeal.τ).loc Cert.HgrnSRefIdeal.main_arg0) = m ((c.tc : Thread Cert.HgrnSIdeal.nD Cert.HgrnSIdeal.τ).loc Cert.HgrnSIdeal.main_arg0)
      ∧ m' ((c.tc : Thread Cert.HgrnSRefIdeal.nD Cert.HgrnSRefIdeal.τ).loc Cert.HgrnSRefIdeal.main_arg1) = m ((c.tc : Thread Cert.HgrnSIdeal.nD Cert.HgrnSIdeal.τ).loc Cert.HgrnSIdeal.main_arg1)
      ∧ m' ((c.tc : Thread Cert.HgrnSRefIdeal.nD Cert.HgrnSRefIdeal.τ).loc Cert.HgrnSRefIdeal.main_arg2) = m ((c.tc : Thread Cert.HgrnSIdeal.nD Cert.HgrnSIdeal.τ).loc Cert.HgrnSIdeal.main_arg2)
      ∧ m' ((c.tc : Thread Cert.HgrnSRefIdeal.nD Cert.HgrnSRefIdeal.τ).loc Cert.HgrnSRefIdeal.main_arg3) = m ((c.tc : Thread Cert.HgrnSIdeal.nD Cert.HgrnSIdeal.τ).loc Cert.HgrnSIdeal.main_arg3)) →
    ∃ (v0 : (c : Dev Cert.HgrnSIdeal.nD) → Buf (Elt Ideal) ((c.tc : Thread Cert.HgrnSIdeal.nD Cert.HgrnSIdeal.τ).loc Cert.HgrnSIdeal.main_v2_1)),
      θ_run (Cert.HgrnSIdeal.defs (F := Ideal)) (onTc (τ := Cert.HgrnSIdeal.τ) (Cert.HgrnSIdeal.main (F := Ideal))) ⟨m, fun _ => 0, g⟩ (fun r => ∀ c : Dev Cert.HgrnSIdeal.nD,
          r.2.mem ((c.tc : Thread Cert.HgrnSIdeal.nD Cert.HgrnSIdeal.τ).loc Cert.HgrnSIdeal.main_v2_1) = v0 c
          ∧ r.2.mem ((c.tc : Thread Cert.HgrnSIdeal.nD Cert.HgrnSIdeal.τ).loc Cert.HgrnSIdeal.main_arg0) = m ((c.tc : Thread Cert.HgrnSIdeal.nD Cert.HgrnSIdeal.τ).loc Cert.HgrnSIdeal.main_arg0)
          ∧ r.2.mem ((c.tc : Thread Cert.HgrnSIdeal.nD Cert.HgrnSIdeal.τ).loc Cert.HgrnSIdeal.main_arg1) = m ((c.tc : Thread Cert.HgrnSIdeal.nD Cert.HgrnSIdeal.τ).loc Cert.HgrnSIdeal.main_arg1)
          ∧ r.2.mem ((c.tc : Thread Cert.HgrnSIdeal.nD Cert.HgrnSIdeal.τ).loc Cert.HgrnSIdeal.main_arg2) = m ((c.tc : Thread Cert.HgrnSIdeal.nD Cert.HgrnSIdeal.τ).loc Cert.HgrnSIdeal.main_arg2)
          ∧ r.2.mem ((c.tc : Thread Cert.HgrnSIdeal.nD Cert.HgrnSIdeal.τ).loc Cert.HgrnSIdeal.main_arg3) = m ((c.tc : Thread Cert.HgrnSIdeal.nD Cert.HgrnSIdeal.τ).loc Cert.HgrnSIdeal.main_arg3))
      ∧ θ_run (Cert.HgrnSRefIdeal.defs (F := Ideal)) (onTc (τ := Cert.HgrnSRefIdeal.τ) (Cert.HgrnSRefIdeal.main (F := Ideal))) ⟨m', fun _ => 0, g'⟩ (fun r => ∀ c : Dev Cert.HgrnSRefIdeal.nD,
          r.2.mem ((c.tc : Thread Cert.HgrnSRefIdeal.nD Cert.HgrnSRefIdeal.τ).loc Cert.HgrnSRefIdeal.main_v101) = v0 c
          ∧ r.2.mem ((c.tc : Thread Cert.HgrnSRefIdeal.nD Cert.HgrnSRefIdeal.τ).loc Cert.HgrnSRefIdeal.main_arg0) = m' ((c.tc : Thread Cert.HgrnSRefIdeal.nD Cert.HgrnSRefIdeal.τ).loc Cert.HgrnSRefIdeal.main_arg0)
          ∧ r.2.mem ((c.tc : Thread Cert.HgrnSRefIdeal.nD Cert.HgrnSRefIdeal.τ).loc Cert.HgrnSRefIdeal.main_arg1) = m' ((c.tc : Thread Cert.HgrnSRefIdeal.nD Cert.HgrnSRefIdeal.τ).loc Cert.HgrnSRefIdeal.main_arg1)
          ∧ r.2.mem ((c.tc : Thread Cert.HgrnSRefIdeal.nD Cert.HgrnSRefIdeal.τ).loc Cert.HgrnSRefIdeal.main_arg2) = m' ((c.tc : Thread Cert.HgrnSRefIdeal.nD Cert.HgrnSRefIdeal.τ).loc Cert.HgrnSRefIdeal.main_arg2)
          ∧ r.2.mem ((c.tc : Thread Cert.HgrnSRefIdeal.nD Cert.HgrnSRefIdeal.τ).loc Cert.HgrnSRefIdeal.main_arg3) = m' ((c.tc : Thread Cert.HgrnSRefIdeal.nD Cert.HgrnSRefIdeal.τ).loc Cert.HgrnSRefIdeal.main_arg3))

def Claim : Prop :=
  ∃ (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hMerge : Cert.Merge.Facts) (hMergeIdeal : Cert.MergeIdeal.Facts) (hMergeRefIdeal : Cert.MergeRefIdeal.Facts) (hCrossQ : Cert.CrossQ.Facts) (hCrossQIdeal : Cert.CrossQIdeal.Facts) (hCrossQRefIdeal : Cert.CrossQRefIdeal.Facts) (hMemKv : Cert.MemKv.Facts) (hMemKvIdeal : Cert.MemKvIdeal.Facts) (hMemKvRefIdeal : Cert.MemKvRefIdeal.Facts) (hXattn : Cert.Xattn.Facts) (hXattnIdeal : Cert.XattnIdeal.Facts) (hXattnRefIdeal : Cert.XattnRefIdeal.Facts) (hCrossOut : Cert.CrossOut.Facts) (hCrossOutIdeal : Cert.CrossOutIdeal.Facts) (hCrossOutRefIdeal : Cert.CrossOutRefIdeal.Facts) (hFfnS : Cert.FfnS.Facts) (hFfnSIdeal : Cert.FfnSIdeal.Facts) (hFfnSRefIdeal : Cert.FfnSRefIdeal.Facts) (hMixInS : Cert.MixInS.Facts) (hMixInSIdeal : Cert.MixInSIdeal.Facts) (hMixInSRefIdeal : Cert.MixInSRefIdeal.Facts) (hMergeS : Cert.MergeS.Facts) (hMergeSIdeal : Cert.MergeSIdeal.Facts) (hMergeSRefIdeal : Cert.MergeSRefIdeal.Facts) (hCrossQS : Cert.CrossQS.Facts) (hCrossQSIdeal : Cert.CrossQSIdeal.Facts) (hCrossQSRefIdeal : Cert.CrossQSRefIdeal.Facts) (hXattnS : Cert.XattnS.Facts) (hXattnSIdeal : Cert.XattnSIdeal.Facts) (hXattnSRefIdeal : Cert.XattnSRefIdeal.Facts) (hCrossOutS : Cert.CrossOutS.Facts) (hCrossOutSIdeal : Cert.CrossOutSIdeal.Facts) (hCrossOutSRefIdeal : Cert.CrossOutSRefIdeal.Facts) (hHgrnS : Cert.HgrnS.Facts) (hHgrnSIdeal : Cert.HgrnSIdeal.Facts) (hHgrnSRefIdeal : Cert.HgrnSRefIdeal.Facts) (hPre_hgrn_domain : Cert.Pre_hgrn_domain.Facts),
    quiescent_Ffn (hFfn := hFfn)
    ∧ quiescent_FfnIdeal (hFfnIdeal := hFfnIdeal)
    ∧ quiescent_FfnRefIdeal (hFfnRefIdeal := hFfnRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Merge (hMerge := hMerge)
    ∧ quiescent_MergeIdeal (hMergeIdeal := hMergeIdeal)
    ∧ quiescent_MergeRefIdeal (hMergeRefIdeal := hMergeRefIdeal)
    ∧ quiescent_CrossQ (hCrossQ := hCrossQ)
    ∧ quiescent_CrossQIdeal (hCrossQIdeal := hCrossQIdeal)
    ∧ quiescent_CrossQRefIdeal (hCrossQRefIdeal := hCrossQRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Xattn (hXattn := hXattn)
    ∧ quiescent_XattnIdeal (hXattnIdeal := hXattnIdeal)
    ∧ quiescent_XattnRefIdeal (hXattnRefIdeal := hXattnRefIdeal)
    ∧ quiescent_CrossOut (hCrossOut := hCrossOut)
    ∧ quiescent_CrossOutIdeal (hCrossOutIdeal := hCrossOutIdeal)
    ∧ quiescent_CrossOutRefIdeal (hCrossOutRefIdeal := hCrossOutRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_MixInS (hMixInS := hMixInS)
    ∧ quiescent_MixInSIdeal (hMixInSIdeal := hMixInSIdeal)
    ∧ quiescent_MixInSRefIdeal (hMixInSRefIdeal := hMixInSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_CrossQS (hCrossQS := hCrossQS)
    ∧ quiescent_CrossQSIdeal (hCrossQSIdeal := hCrossQSIdeal)
    ∧ quiescent_CrossQSRefIdeal (hCrossQSRefIdeal := hCrossQSRefIdeal)
    ∧ quiescent_XattnS (hXattnS := hXattnS)
    ∧ quiescent_XattnSIdeal (hXattnSIdeal := hXattnSIdeal)
    ∧ quiescent_XattnSRefIdeal (hXattnSRefIdeal := hXattnSRefIdeal)
    ∧ quiescent_CrossOutS (hCrossOutS := hCrossOutS)
    ∧ quiescent_CrossOutSIdeal (hCrossOutSIdeal := hCrossOutSIdeal)
    ∧ quiescent_CrossOutSRefIdeal (hCrossOutSRefIdeal := hCrossOutSRefIdeal)
    ∧ quiescent_HgrnS (hHgrnS := hHgrnS)
    ∧ quiescent_HgrnSIdeal (hHgrnSIdeal := hHgrnSIdeal)
    ∧ quiescent_HgrnSIdeal_pre_hgrn_domain (hHgrnSIdeal := hHgrnSIdeal) (hPre_hgrn_domain := hPre_hgrn_domain)
    ∧ quiescent_HgrnSRefIdeal (hHgrnSRefIdeal := hHgrnSRefIdeal)
    ∧ quiescent_HgrnSRefIdeal_pre_hgrn_domain (hHgrnSRefIdeal := hHgrnSRefIdeal) (hPre_hgrn_domain := hPre_hgrn_domain)
    ∧ preserves_Ffn_FfnIdeal
    ∧ algebraic_FfnIdeal_FfnRefIdeal (hFfnIdeal := hFfnIdeal) (hFfnRefIdeal := hFfnRefIdeal)
    ∧ preserves_MixIn_MixInIdeal
    ∧ algebraic_MixInIdeal_MixInRefIdeal (hMixInIdeal := hMixInIdeal) (hMixInRefIdeal := hMixInRefIdeal)
    ∧ preserves_Merge_MergeIdeal
    ∧ algebraic_MergeIdeal_MergeRefIdeal (hMergeIdeal := hMergeIdeal) (hMergeRefIdeal := hMergeRefIdeal)
    ∧ preserves_CrossQ_CrossQIdeal
    ∧ algebraic_CrossQIdeal_CrossQRefIdeal (hCrossQIdeal := hCrossQIdeal) (hCrossQRefIdeal := hCrossQRefIdeal)
    ∧ preserves_MemKv_MemKvIdeal
    ∧ algebraic_MemKvIdeal_MemKvRefIdeal (hMemKvIdeal := hMemKvIdeal) (hMemKvRefIdeal := hMemKvRefIdeal)
    ∧ preserves_Xattn_XattnIdeal
    ∧ algebraic_XattnIdeal_XattnRefIdeal (hXattnIdeal := hXattnIdeal) (hXattnRefIdeal := hXattnRefIdeal)
    ∧ preserves_CrossOut_CrossOutIdeal
    ∧ algebraic_CrossOutIdeal_CrossOutRefIdeal (hCrossOutIdeal := hCrossOutIdeal) (hCrossOutRefIdeal := hCrossOutRefIdeal)
    ∧ preserves_FfnS_FfnSIdeal
    ∧ algebraic_FfnSIdeal_FfnSRefIdeal (hFfnSIdeal := hFfnSIdeal) (hFfnSRefIdeal := hFfnSRefIdeal)
    ∧ preserves_MixInS_MixInSIdeal
    ∧ algebraic_MixInSIdeal_MixInSRefIdeal (hMixInSIdeal := hMixInSIdeal) (hMixInSRefIdeal := hMixInSRefIdeal)
    ∧ preserves_MergeS_MergeSIdeal
    ∧ algebraic_MergeSIdeal_MergeSRefIdeal (hMergeSIdeal := hMergeSIdeal) (hMergeSRefIdeal := hMergeSRefIdeal)
    ∧ preserves_CrossQS_CrossQSIdeal
    ∧ algebraic_CrossQSIdeal_CrossQSRefIdeal (hCrossQSIdeal := hCrossQSIdeal) (hCrossQSRefIdeal := hCrossQSRefIdeal)
    ∧ preserves_XattnS_XattnSIdeal
    ∧ algebraic_XattnSIdeal_XattnSRefIdeal (hXattnSIdeal := hXattnSIdeal) (hXattnSRefIdeal := hXattnSRefIdeal)
    ∧ preserves_CrossOutS_CrossOutSIdeal
    ∧ algebraic_CrossOutSIdeal_CrossOutSRefIdeal (hCrossOutSIdeal := hCrossOutSIdeal) (hCrossOutSRefIdeal := hCrossOutSRefIdeal)
    ∧ preserves_HgrnS_HgrnSIdeal
    ∧ algebraic_HgrnSIdeal_HgrnSRefIdeal_pre_hgrn_domain (hHgrnSIdeal := hHgrnSIdeal) (hHgrnSRefIdeal := hHgrnSRefIdeal) (hPre_hgrn_domain := hPre_hgrn_domain)
-- ==== Pre_hgrn_domain.lean ====
abbrev S32x8x2048 : Shape := ⟨3, ![32, 8, 2048]⟩
abbrev S512 : Shape := ⟨1, ![512]⟩
abbrev S32x4x128x128 : Shape := ⟨4, ![32, 4, 128, 128]⟩
abbrev S32x8x1024 : Shape := ⟨3, ![32, 8, 1024]⟩
abbrev S_ : Shape := ⟨0, ![]⟩

class Facts : Prop where
  slices_S32x8x2048_S32x8x1024_0_0_512 : S32x8x2048.Slices ![0, 0, 512] S32x8x1024
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S512 : S_.BroadcastsInDim S512 (![] : Fin 0 → Fin S512.rank)
  reducesTo_S512_S_d0 : S512.ReducesTo [0] S_
  bcast_S_S32x4x128x128 : S_.BroadcastsInDim S32x4x128x128 (![] : Fin 0 → Fin S32x4x128x128.rank)
  reducesTo_S32x4x128x128_S_d0_1_2_3 : S32x4x128x128.ReducesTo [0, 1, 2, 3] S_

variable [Facts]

def fn_part1 {F : FTy → Type} [FloatOps F] (main_v12 : IVec S_ 1) (main_v15 : IVec S32x4x128x128 1) (main_c_5 : IVec S_ 1) : IVec S_ 1 :=
  let main_v16 : IVec S_ 1 := (fun x v => Host.reduce IntOp.andi x v reducesTo_S32x4x128x128_S_d0_1_2_3 h_S_) main_v15 main_c_5
  let main_v17 : IVec S_ 1 := andi main_v12 main_v16
  main_v17

def fn {F : FTy → Type} [FloatOps F] (main_arg0 : FVec F S32x8x2048 .f32) (main_arg1 : FVec F S512 .f32) (main_arg2 : FVec F S512 .f32) (main_arg3 : FVec F S32x4x128x128 .f32) : IVec S_ 1 :=
  let main_v0 : FVec F S32x8x1024 .f32 := (extractStridedSlice S32x8x1024 ![0, 0, 512] · slices_S32x8x2048_S32x8x1024_0_0_512) main_arg0
  let main_v1 : FVec F S32x8x1024 .f32 := Host.absf main_v0
  let main_cst : FVec F S_ .f32 := constant S_ .f32 0x7F61B1E6#32
  let main_v2 : FVec F S32x8x1024 .f32 := broadcastInDim S32x8x1024 ![] bcast_S_S32x8x1024 main_cst
  let main_v3 : IVec S32x8x1024 1 := cmpf .ole main_v1 main_v2
  let main_c : IVec S_ 1 := constantI S_ 1 1#1
  let main_v4 : IVec S_ 1 := (fun x v => Host.reduce IntOp.andi x v reducesTo_S32x8x1024_S_d0_1_2 h_S_) main_v3 main_c
  let main_cst_0 : FVec F S_ .f32 := constant S_ .f32 0x00000000#32
  let main_v5 : FVec F S512 .f32 := broadcastInDim S512 ![] bcast_S_S512 main_cst_0
  let main_v6 : IVec S512 1 := cmpf .oge main_arg1 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v4 main_v7
  let main_cst_2 : FVec F S_ .f32 := constant S_ .f32 0x3F800000#32
  let main_v9 : FVec F S512 .f32 := broadcastInDim S512 ![] bcast_S_S512 main_cst_2
  let main_v10 : IVec S512 1 := cmpf .ole main_arg1 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_v13 : FVec F S32x4x128x128 .f32 := Host.absf main_arg3
  let main_cst_4 : FVec F S_ .f32 := constant S_ .f32 0x7F61B1E6#32
  let main_v14 : FVec F S32x4x128x128 .f32 := broadcastInDim S32x4x128x128 ![] bcast_S_S32x4x128x128 main_cst_4
  let main_v15 : IVec S32x4x128x128 1 := cmpf .ole main_v13 main_v14
  let main_c_5 : IVec S_ 1 := constantI S_ 1 1#1
  fn_part1 (F := F) main_v12 main_v15 main_c_5
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== MixIn.lean ====
abbrev S16384x1024 : Shape := ⟨2, ![16384, 1024]⟩
abbrev S1024 : Shape := ⟨1, ![1024]⟩
abbrev S1024x8004 : Shape := ⟨2, ![1024, 8004]⟩
abbrev S1x1024 : Shape := ⟨2, ![1, 1024]⟩
abbrev S1024x1792 : Shape := ⟨2, ![1024, 1792]⟩
abbrev S1024x1092 : Shape := ⟨2, ![1024, 1092]⟩
abbrev S_ : Shape := ⟨0, ![]⟩
abbrev S1024x1152 : Shape := ⟨2, ![1024, 1152]⟩
abbrev S1024x2048 : Shape := ⟨2, ![1024, 2048]⟩
abbrev S1024x3072 : Shape := ⟨2, ![1024, 3072]⟩
abbrev S16384x1792 : Shape := ⟨2, ![16384, 1792]⟩
abbrev S16384x1152 : Shape := ⟨2, ![16384, 1152]⟩
abbrev S16384x2048 : Shape := ⟨2, ![16384, 2048]⟩
abbrev S16384x3072 : Shape := ⟨2, ![16384, 3072]⟩
abbrev S512x1024 : Shape := ⟨2, ![512, 1024]⟩
abbrev S512x1792 : Shape := ⟨2, ![512, 1792]⟩
abbrev S512x1152 : Shape := ⟨2, ![512, 1152]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8004, .f32⟩
  | .hbm, ⟨3, _⟩ => ⟨S1x1024, .f32⟩
  | .hbm, ⟨4, _⟩ => ⟨S1024x1792, .f32⟩
  | .hbm, ⟨5, _⟩ => ⟨S1024x1792, .bf16⟩
  | .hbm, ⟨6, _⟩ => ⟨S1024x1092, .f32⟩
  | .hbm, ⟨7, _⟩ => ⟨S_, .i32⟩
  | .hbm, ⟨8, _⟩ => ⟨S_, .f32⟩
  | .hbm, ⟨9, _⟩ => ⟨S1024x1152, .f32⟩
  | .hbm, ⟨10, _⟩ => ⟨S1024x1152, .bf16⟩
  | .hbm, ⟨11, _⟩ => ⟨S1024x2048, .f32⟩
  | .hbm, ⟨12, _⟩ => ⟨S1024x2048, .bf16⟩
  | .hbm, ⟨13, _⟩ => ⟨S1024x3072, .f32⟩
  | .hbm, ⟨14, _⟩ => ⟨S1024x3072, .bf16⟩
  | .hbm, ⟨15, _⟩ => ⟨S16384x1792, .f32⟩
  | .hbm, ⟨16, _⟩ => ⟨S16384x1152, .f32⟩
  | .hbm, ⟨17, _⟩ => ⟨S16384x2048, .f32⟩
  | .hbm, ⟨18, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1152, .bf16⟩
  | .local _ .vmem, ⟨5, _⟩ => ⟨S1024x2048, .bf16⟩
  | .local _ .vmem, ⟨6, _⟩ => ⟨S1024x3072, .bf16⟩
  | .local _ .vmem, ⟨7, _⟩ => ⟨S512x1792, .f32⟩
  | .local _ .vmem, ⟨8, _⟩ => ⟨S512x1792, .f32⟩
  | .local _ .vmem, ⟨9, _⟩ => ⟨S512x1152, .f32⟩
  | .local _ .vmem, ⟨10, _⟩ => ⟨S512x1152, .f32⟩
  | .local _ .vmem, ⟨11, _⟩ => ⟨S512x2048, .f32⟩
  | .local _ .vmem, ⟨12, _⟩ => ⟨S512x2048, .f32⟩
  | .local _ .vmem, ⟨13, _⟩ => ⟨S512x3072, .f32⟩
  | .local _ .vmem, ⟨14, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInIdeal.lean ====
abbrev S16384x1024 : Shape := ⟨2, ![16384, 1024]⟩
abbrev S1024 : Shape := ⟨1, ![1024]⟩
abbrev S1024x8004 : Shape := ⟨2, ![1024, 8004]⟩
abbrev S1x1024 : Shape := ⟨2, ![1, 1024]⟩
abbrev S1024x1792 : Shape := ⟨2, ![1024, 1792]⟩
abbrev S1024x1092 : Shape := ⟨2, ![1024, 1092]⟩
abbrev S_ : Shape := ⟨0, ![]⟩
abbrev S1024x1152 : Shape := ⟨2, ![1024, 1152]⟩
abbrev S1024x2048 : Shape := ⟨2, ![1024, 2048]⟩
abbrev S1024x3072 : Shape := ⟨2, ![1024, 3072]⟩
abbrev S16384x1792 : Shape := ⟨2, ![16384, 1792]⟩
abbrev S16384x1152 : Shape := ⟨2, ![16384, 1152]⟩
abbrev S16384x2048 : Shape := ⟨2, ![16384, 2048]⟩
abbrev S16384x3072 : Shape := ⟨2, ![16384, 3072]⟩
abbrev S512x1024 : Shape := ⟨2, ![512, 1024]⟩
abbrev S512x1792 : Shape := ⟨2, ![512, 1792]⟩
abbrev S512x1152 : Shape := ⟨2, ![512, 1152]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8004, .f32⟩
  | .hbm, ⟨3, _⟩ => ⟨S1x1024, .f32⟩
  | .hbm, ⟨4, _⟩ => ⟨S1024x1792, .f32⟩
  | .hbm, ⟨5, _⟩ => ⟨S1024x1792, .bf16⟩
  | .hbm, ⟨6, _⟩ => ⟨S1024x1092, .f32⟩
  | .hbm, ⟨7, _⟩ => ⟨S_, .i32⟩
  | .hbm, ⟨8, _⟩ => ⟨S_, .f32⟩
  | .hbm, ⟨9, _⟩ => ⟨S1024x1152, .f32⟩
  | .hbm, ⟨10, _⟩ => ⟨S1024x1152, .bf16⟩
  | .hbm, ⟨11, _⟩ => ⟨S1024x2048, .f32⟩
  | .hbm, ⟨12, _⟩ => ⟨S1024x2048, .bf16⟩
  | .hbm, ⟨13, _⟩ => ⟨S1024x3072, .f32⟩
  | .hbm, ⟨14, _⟩ => ⟨S1024x3072, .bf16⟩
  | .hbm, ⟨15, _⟩ => ⟨S16384x1792, .f32⟩
  | .hbm, ⟨16, _⟩ => ⟨S16384x1152, .f32⟩
  | .hbm, ⟨17, _⟩ => ⟨S16384x2048, .f32⟩
  | .hbm, ⟨18, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1024x1152, .bf16⟩
  | .local _ .vmem, ⟨5, _⟩ => ⟨S1024x2048, .bf16⟩
  | .local _ .vmem, ⟨6, _⟩ => ⟨S1024x3072, .bf16⟩
  | .local _ .vmem, ⟨7, _⟩ => ⟨S512x1792, .f32⟩
  | .local _ .vmem, ⟨8, _⟩ => ⟨S512x1792, .f32⟩
  | .local _ .vmem, ⟨9, _⟩ => ⟨S512x1152, .f32⟩
  | .local _ .vmem, ⟨10, _⟩ => ⟨S512x1152, .f32⟩
  | .local _ .vmem, ⟨11, _⟩ => ⟨S512x2048, .f32⟩
  | .local _ .vmem, ⟨12, _⟩ => ⟨S512x2048, .f32⟩
  | .local _ .vmem, ⟨13, _⟩ => ⟨S512x3072, .f32⟩
  | .local _ .vmem, ⟨14, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixInRefIdeal.lean ====
abbrev S16384x1024 : Shape := ⟨2, ![16384, 1024]⟩
abbrev S1024 : Shape := ⟨1, ![1024]⟩
abbrev S1024x8004 : Shape := ⟨2, ![1024, 8004]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8004 : Shape := ⟨2, ![16384, 8004]⟩
abbrev S16384x1792 : Shape := ⟨2, ![16384, 1792]⟩
abbrev S16384x1092 : Shape := ⟨2, ![16384, 1092]⟩
abbrev S16384x1152 : Shape := ⟨2, ![16384, 1152]⟩
abbrev S16384x2048 : Shape := ⟨2, ![16384, 2048]⟩
abbrev S16384x3072 : Shape := ⟨2, ![16384, 3072]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8004, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8004, .f32⟩
  | .hbm, ⟨20, _⟩ => ⟨S16384x1792, .f32⟩
  | .hbm, ⟨21, _⟩ => ⟨S16384x1092, .f32⟩
  | .hbm, ⟨22, _⟩ => ⟨S_, .i32⟩
  | .hbm, ⟨23, _⟩ => ⟨S_, .f32⟩
  | .hbm, ⟨24, _⟩ => ⟨S16384x1152, .f32⟩
  | .hbm, ⟨25, _⟩ => ⟨S16384x2048, .f32⟩
  | .hbm, ⟨26, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x3072 : Shape := ⟨2, ![512, 3072]⟩
abbrev S512 : Shape := ⟨1, ![512]⟩
abbrev S512x1 : Shape := ⟨2, ![512, 1]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x3072, .f32⟩
  | .local _ .vmem, ⟨9, _⟩ => ⟨S512x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S16384x512 : Shape := ⟨2, ![16384, 512]⟩
abbrev S16384x3072 : Shape := ⟨2, ![16384, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x3x1024, .f32⟩
  | .hbm, ⟨19, _⟩ => ⟨S16384x1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== CrossQ.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossQIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossQRefIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MemKv.lean ====
abbrev S1024x1024 : Shape := ⟨2, ![1024, 1024]⟩
abbrev S1024x2048 : Shape := ⟨2, ![1024, 2048]⟩
abbrev S_ : Shape := ⟨0, ![]⟩
abbrev S1x1024 : Shape := ⟨2, ![1, 1024]⟩
abbrev S256x1024 : Shape := ⟨2, ![256, 1024]⟩
abbrev S256x2048 : Shape := ⟨2, ![256, 2048]⟩
abbrev S1024x512 : Shape := ⟨2, ![1024, 512]⟩
abbrev S256x512 : Shape := ⟨2, ![256, 512]⟩

abbrev nBuf : Space → Nat
  | .hbm => 8
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S_, .f32⟩
  | .hbm, ⟨6, _⟩ => ⟨S1x1024, .f32⟩
  | .hbm, ⟨7, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Xattn.lean ====
abbrev S4x4096x1024 : Shape := ⟨3, ![4, 4096, 1024]⟩
abbrev S4x256x2048 : Shape := ⟨3, ![4, 256, 2048]⟩
abbrev S1x512x1024 : Shape := ⟨3, ![1, 512, 1024]⟩
abbrev S1x256x1024 : Shape := ⟨3, ![1, 256, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x512x1024, .f32⟩
  | .local _ .vmem, ⟨7, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XattnRefIdeal.lean ====
abbrev S4x4096x1024 : Shape := ⟨3, ![4, 4096, 1024]⟩
abbrev S4x256x2048 : Shape := ⟨3, ![4, 256, 2048]⟩
abbrev S4x4096x4x256 : Shape := ⟨4, ![4, 4096, 4, 256]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S4x4096x4x256, .f32⟩
  | .hbm, ⟨3, _⟩ => ⟨S4x256x1024, .f32⟩
  | .hbm, ⟨4, _⟩ => ⟨S4x256x4x256, .f32⟩
  | .hbm, ⟨5, _⟩ => ⟨S4x4x4096x256, .f32⟩
  | .hbm, ⟨6, _⟩ => ⟨S_, .f32⟩
  | .hbm, ⟨7, _⟩ => ⟨S4x4x4096x256, .f32⟩
  | .hbm, ⟨8, _⟩ => ⟨S4x4x4096x256, .f32⟩
  | .hbm, ⟨9, _⟩ => ⟨S_, .f32⟩
  | .hbm, ⟨10, _⟩ => ⟨S4x4x4096, .f32⟩
  | .hbm, ⟨11, _⟩ => ⟨S_, .f32⟩
  | .hbm, ⟨12, _⟩ => ⟨S4x4x4096, .f32⟩
  | .hbm, ⟨13, _⟩ => ⟨S4x4x4096, .f32⟩
  | .hbm, ⟨14, _⟩ => ⟨S4x4x4096x1, .f32⟩
  | .hbm, ⟨15, _⟩ => ⟨S4x4x4096x256, .f32⟩
  | .hbm, ⟨16, _⟩ => ⟨S4x4x4096x256, .f32⟩
  | .hbm, ⟨17, _⟩ => ⟨S4x4x4096x256, .f32⟩
  | .hbm, ⟨18, _⟩ => ⟨S_, .f32⟩
  | .hbm, ⟨19, _⟩ => ⟨S4x4x4096, .f32⟩
  | .hbm, ⟨20, _⟩ => ⟨S4x4x4096x1, .f32⟩
  | .hbm, ⟨21, _⟩ => ⟨S4x4x4096x256, .f32⟩
  | .hbm, ⟨22, _⟩ => ⟨S4x4x4096x256, .f32⟩
  | .hbm, ⟨23, _⟩ => ⟨S4x256x1024, .f32⟩
  | .hbm, ⟨24, _⟩ => ⟨S4x256x4x256, .f32⟩
  | .hbm, ⟨25, _⟩ => ⟨S4x4x256x4096, .f32⟩
  | .hbm, ⟨26, _⟩ => ⟨S4x4096x4x256, .f32⟩
  | .hbm, ⟨27, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== CrossOut.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CrossOutIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CrossOutRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== FfnS.lean ====
abbrev S256x1024 : Shape := ⟨2, ![256, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSRefIdeal.lean ====
abbrev S256x1024 : Shape := ⟨2, ![256, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x5632 : Shape := ⟨2, ![256, 5632]⟩
abbrev S256x2816 : Shape := ⟨2, ![256, 2816]⟩

abbrev nBuf : Space → Nat
  | .hbm => 55
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x5632, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S_, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x1024, .f32⟩
  | .hbm, ⟨47, _⟩ => ⟨S256x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256x1024, .f32⟩
  | .hbm, ⟨53, _⟩ => ⟨S256x1024, .f32⟩
  | .hbm, ⟨54, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== MixInS.lean ====
abbrev S256x1024 : Shape := ⟨2, ![256, 1024]⟩
abbrev S1024 : Shape := ⟨1, ![1024]⟩
abbrev S1024x8004 : Shape := ⟨2, ![1024, 8004]⟩
abbrev S1x1024 : Shape := ⟨2, ![1, 1024]⟩
abbrev S1024x1792 : Shape := ⟨2, ![1024, 1792]⟩
abbrev S1024x1092 : Shape := ⟨2, ![1024, 1092]⟩
abbrev S_ : Shape := ⟨0, ![]⟩
abbrev S1024x1152 : Shape := ⟨2, ![1024, 1152]⟩
abbrev S1024x2048 : Shape := ⟨2, ![1024, 2048]⟩
abbrev S1024x3072 : Shape := ⟨2, ![1024, 3072]⟩
abbrev S256x1792 : Shape := ⟨2, ![256, 1792]⟩
abbrev S256x1152 : Shape := ⟨2, ![256, 1152]⟩
abbrev S256x2048 : Shape := ⟨2, ![256, 2048]⟩
abbrev S256x3072 : Shape := ⟨2, ![256, 3072]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 19
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x8004, .f32⟩
  | .hbm, ⟨3, _⟩ => ⟨S1x1024, .f32⟩
  | .hbm, ⟨4, _⟩ => ⟨S1024x1792, .f32⟩
  | .hbm, ⟨5, _⟩ => ⟨S1024x1792, .bf16⟩
  | .hbm, ⟨6, _⟩ => ⟨S1024x1092, .f32⟩
  | .hbm, ⟨7, _⟩ => ⟨S_, .i32⟩
  | .hbm, ⟨8, _⟩ => ⟨S_, .f32⟩
  | .hbm, ⟨9, _⟩ => ⟨S1024x1152, .f32⟩
  | .hbm, ⟨10, _⟩ => ⟨S1024x1152, .bf16⟩
  | .hbm, ⟨11, _⟩ => ⟨S1024x2048, .f32⟩
  | .hbm, ⟨12, _⟩ => ⟨S1024x2048, .bf16⟩
  | .hbm, ⟨13, _⟩ => ⟨S1024x3072, .f32⟩
  | .hbm, ⟨14, _⟩ => ⟨S1024x3072, .bf16⟩
  | .hbm, ⟨15, _⟩ => ⟨S256x1792, .f32⟩
  | .hbm, ⟨16, _⟩ => ⟨S256x1152, .f32⟩
  | .hbm, ⟨17, _⟩ => ⟨S256x2048, .f32⟩
  | .hbm, ⟨18, _⟩ => ⟨S256x3072, .f32⟩
  | .local _ .vmem, ⟨0, _⟩ => ⟨S256x1024, .f32⟩
  | .local _ .vmem, ⟨1, _⟩ => ⟨S1x1024, .f32⟩
  | .local _ .vmem, ⟨2, _⟩ => ⟨S1024x1792, .bf16⟩
  | .local _ .vmem, ⟨3, _⟩ => ⟨S1024x1152, .bf16⟩
  | .local _ .vmem, ⟨4, _⟩ => ⟨S1024x2048, .bf16⟩
  | .local _ .vmem, ⟨5, _⟩ => ⟨S1024x3072, .bf16⟩
  | .local _ .vmem, ⟨6, _⟩ => ⟨S256x1792, .f32⟩
  | .local _ .vmem, ⟨7, _⟩ => ⟨S256x1152, .f32⟩
  | .local _ .vmem, ⟨8, _⟩ => ⟨S256x2048, .f32⟩
  | .local _ .vmem, ⟨9, _⟩ => ⟨S256x3072, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1152 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MixInSRefIdeal.lean ====
abbrev S256x1024 : Shape := ⟨2, ![256, 1024]⟩
abbrev S1024 : Shape := ⟨1, ![1024]⟩
abbrev S1024x8004 : Shape := ⟨2, ![1024, 8004]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x8004 : Shape := ⟨2, ![256, 8004]⟩
abbrev S256x1792 : Shape := ⟨2, ![256, 1792]⟩
abbrev S256x1092 : Shape := ⟨2, ![256, 1092]⟩
abbrev S256x1152 : Shape := ⟨2, ![256, 1152]⟩
abbrev S256x2048 : Shape := ⟨2, ![256, 2048]⟩
abbrev S256x3072 : Shape := ⟨2, ![256, 3072]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x8004, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x8004, .f32⟩
  | .hbm, ⟨20, _⟩ => ⟨S256x1792, .f32⟩
  | .hbm, ⟨21, _⟩ => ⟨S256x1092, .f32⟩
  | .hbm, ⟨22, _⟩ => ⟨S_, .i32⟩
  | .hbm, ⟨23, _⟩ => ⟨S_, .f32⟩
  | .hbm, ⟨24, _⟩ => ⟨S256x1152, .f32⟩
  | .hbm, ⟨25, _⟩ => ⟨S256x2048, .f32⟩
  | .hbm, ⟨26, _⟩ => ⟨S256x3072, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MergeS.lean ====
abbrev S256x1024 : Shape := ⟨2, ![256, 1024]⟩
abbrev S256x512 : Shape := ⟨2, ![256, 512]⟩
abbrev S256x3072 : Shape := ⟨2, ![256, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x3072, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== MergeSRefIdeal.lean ====
abbrev S256x1024 : Shape := ⟨2, ![256, 1024]⟩
abbrev S256x512 : Shape := ⟨2, ![256, 512]⟩
abbrev S256x3072 : Shape := ⟨2, ![256, 3072]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S256x3x1024 : Shape := ⟨3, ![256, 3, 1024]⟩
abbrev S256x1x1024 : Shape := ⟨3, ![256, 1, 1024]⟩
abbrev S256 : Shape := ⟨1, ![256]⟩
abbrev S256x1 : Shape := ⟨2, ![256, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S256x3072, .f32⟩
  | .hbm, ⟨11, _⟩ => ⟨S256x3072, .f32⟩
  | .hbm, ⟨12, _⟩ => ⟨S_, .f32⟩
  | .hbm, ⟨13, _⟩ => ⟨S256x3072, .f32⟩
  | .hbm, ⟨14, _⟩ => ⟨S256x3072, .f32⟩
  | .hbm, ⟨15, _⟩ => ⟨S_, .f32⟩
  | .hbm, ⟨16, _⟩ => ⟨S256x3072, .f32⟩
  | .hbm, ⟨17, _⟩ => ⟨S256x3072, .f32⟩
  | .hbm, ⟨18, _⟩ => ⟨S256x3x1024, .f32⟩
  | .hbm, ⟨19, _⟩ => ⟨S256x1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S256x1024, .f32⟩
  | .hbm, ⟨46, _⟩ => ⟨S256x1024, .f32⟩
  | .hbm, ⟨47, _⟩ => ⟨S1x1024, .f32⟩
  | .hbm, ⟨48, _⟩ => ⟨S256x1024, .f32⟩
  | .hbm, ⟨49, _⟩ => ⟨S256x1024, .f32⟩
  | .hbm, ⟨50, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== CrossQS.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 6
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== CrossQSRefIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== XattnS.lean ====
abbrev S32x8x1024 : Shape := ⟨3, ![32, 8, 1024]⟩
abbrev S32x256x1024 : Shape := ⟨3, ![32, 256, 1024]⟩
abbrev S1x8x1024 : Shape := ⟨3, ![1, 8, 1024]⟩
abbrev S1x256x1024 : Shape := ⟨3, ![1, 256, 1024]⟩
abbrev S1x8x256 : Shape := ⟨3, ![1, 8, 256]⟩
abbrev S8x256 : Shape := ⟨2, ![8, 256]⟩
abbrev S1x256x256 : Shape := ⟨3, ![1, 256, 256]⟩
abbrev S256x256 : Shape := ⟨2, ![256, 256]⟩
abbrev S8 : Shape := ⟨1, ![8]⟩
abbrev S8x1 : Shape := ⟨2, ![8, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x8x1024, .f32⟩
  | .hbm, ⟨1, _⟩ => ⟨S32x256x1024, .f32⟩
  | .hbm, ⟨2, _⟩ => ⟨S32x256x1024, .f32⟩
  | .hbm, ⟨3, _⟩ => ⟨S32x8x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x8x1024, .f32⟩
  | .local _ .vmem, ⟨7, _⟩ => ⟨S1x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XattnSRefIdeal.lean ====
abbrev S32x8x1024 : Shape := ⟨3, ![32, 8, 1024]⟩
abbrev S32x256x1024 : Shape := ⟨3, ![32, 256, 1024]⟩
abbrev S32x8x4x256 : Shape := ⟨4, ![32, 8, 4, 256]⟩
abbrev S32x256x4x256 : Shape := ⟨4, ![32, 256, 4, 256]⟩
abbrev S32x4x8x256 : Shape := ⟨4, ![32, 4, 8, 256]⟩
abbrev S_ : Shape := ⟨0, ![]⟩
abbrev S32x4x8 : Shape := ⟨3, ![32, 4, 8]⟩
abbrev S32x4x8x1 : Shape := ⟨4, ![32, 4, 8, 1]⟩
abbrev S32x4x256x8 : Shape := ⟨4, ![32, 4, 256, 8]⟩

abbrev nBuf : Space → Nat
  | .hbm => 27
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x256x1024, .f32⟩
  | .hbm, ⟨2, _⟩ => ⟨S32x256x1024, .f32⟩
  | .hbm, ⟨3, _⟩ => ⟨S32x8x4x256, .f32⟩
  | .hbm, ⟨4, _⟩ => ⟨S32x256x4x256, .f32⟩
  | .hbm, ⟨5, _⟩ => ⟨S32x4x8x256, .f32⟩
  | .hbm, ⟨6, _⟩ => ⟨S_, .f32⟩
  | .hbm, ⟨7, _⟩ => ⟨S32x4x8x256, .f32⟩
  | .hbm, ⟨8, _⟩ => ⟨S32x4x8x256, .f32⟩
  | .hbm, ⟨9, _⟩ => ⟨S_, .f32⟩
  | .hbm, ⟨10, _⟩ => ⟨S32x4x8, .f32⟩
  | .hbm, ⟨11, _⟩ => ⟨S_, .f32⟩
  | .hbm, ⟨12, _⟩ => ⟨S32x4x8, .f32⟩
  | .hbm, ⟨13, _⟩ => ⟨S32x4x8, .f32⟩
  | .hbm, ⟨14, _⟩ => ⟨S32x4x8x1, .f32⟩
  | .hbm, ⟨15, _⟩ => ⟨S32x4x8x256, .f32⟩
  | .hbm, ⟨16, _⟩ => ⟨S32x4x8x256, .f32⟩
  | .hbm, ⟨17, _⟩ => ⟨S32x4x8x256, .f32⟩
  | .hbm, ⟨18, _⟩ => ⟨S_, .f32⟩
  | .hbm, ⟨19, _⟩ => ⟨S32x4x8, .f32⟩
  | .hbm, ⟨20, _⟩ => ⟨S32x4x8x1, .f32⟩
  | .hbm, ⟨21, _⟩ => ⟨S32x4x8x256, .f32⟩
  | .hbm, ⟨22, _⟩ => ⟨S32x4x8x256, .f32⟩
  | .hbm, ⟨23, _⟩ => ⟨S32x256x4x256, .f32⟩
  | .hbm, ⟨24, _⟩ => ⟨S32x4x256x8, .f32⟩
  | .hbm, ⟨25, _⟩ => ⟨S32x8x4x256, .f32⟩
  | .hbm, ⟨26, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== CrossOutS.lean ====
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CrossOutSRefIdeal.lean ====
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .hbm, ⟨3, _⟩ => ⟨S1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== HgrnS.lean ====
abbrev S32x8x2048 : Shape := ⟨3, ![32, 8, 2048]⟩
abbrev S512 : Shape := ⟨1, ![512]⟩
abbrev S32x4x128x128 : Shape := ⟨4, ![32, 4, 128, 128]⟩
abbrev S1x512 : Shape := ⟨2, ![1, 512]⟩
abbrev S32x8x512 : Shape := ⟨3, ![32, 8, 512]⟩
abbrev S1x8x2048 : Shape := ⟨3, ![1, 8, 2048]⟩
abbrev S1x4x128x128 : Shape := ⟨4, ![1, 4, 128, 128]⟩
abbrev S1x8x512 : Shape := ⟨3, ![1, 8, 512]⟩
abbrev S4x128x128 : Shape := ⟨3, ![4, 128, 128]⟩
abbrev S8x512 : Shape := ⟨2, ![8, 512]⟩
abbrev S1x1x128x128 : Shape := ⟨4, ![1, 1, 128, 128]⟩
abbrev S128x128 : Shape := ⟨2, ![128, 128]⟩
abbrev S1x128x128 : Shape := ⟨3, ![1, 128, 128]⟩
abbrev S8x8 : Shape := ⟨2, ![8, 8]⟩
abbrev S64x128 : Shape := ⟨2, ![64, 128]⟩
abbrev S8x64 : Shape := ⟨2, ![8, 64]⟩
abbrev S1x8x128 : Shape := ⟨3, ![1, 8, 128]⟩
abbrev S8x128 : Shape := ⟨2, ![8, 128]⟩
abbrev S1x128 : Shape := ⟨2, ![1, 128]⟩
abbrev S8 : Shape := ⟨1, ![8]⟩
abbrev S8x1 : Shape := ⟨2, ![8, 1]⟩

abbrev nBuf : Space → Nat
  | .hbm => 8
  | .vmem => 13
  | .smem => 0
  | _ => 0

abbrev bufTy : (tb : Table) → Fin (tcTables nBuf tb) → BufTy
  | .hbm, ⟨0, _⟩ => ⟨S32x8x2048, .f32⟩
  | .hbm, ⟨1, _⟩ => ⟨S512, .f32⟩
  | .hbm, ⟨2, _⟩ => ⟨S512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S32x8x512, .f32⟩
  | .hbm, ⟨7, _⟩ => ⟨S32x4x128x128, .f32⟩
  | .local _ .vmem, ⟨0, _⟩ => ⟨S1x8x2048, .f32⟩
  | .local _ .vmem, ⟨1, _⟩ => ⟨S1x8x2048, .f32⟩
  | .local _ .vmem, ⟨2, _⟩ => ⟨S1x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S1x8x512, .f32⟩
  | .local _ .vmem, ⟨7, _⟩ => ⟨S1x8x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | .local _ .vmem, ⟨11, _⟩ => ⟨S8x512, .f32⟩
  | .local _ .vmem, ⟨12, _⟩ => ⟨S8x512, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def k0_mult1 : BitVec 32 :=
  let c0_i32_59 : BitVec 32 := 0#32
  let c8_i32_60 : BitVec 32 := 8#32
  let v203 : BitVec 32 := Scalar.muli c0_i32_59 c8_i32_60
  v203
def k0_off1 : Fin 3 → Nat :=
  let c0_61 : Index := 0#32
  let c0_i32_59 : BitVec 32 := 0#32
  let c8_i32_60 : BitVec 32 := 8#32
  let v203 : BitVec 32 := Scalar.muli c0_i32_59 c8_i32_60
  let v204 : BitVec 32 := v203
  let v205 : Index := Scalar.indexCast v204
  let c0_62 : Index := 0#32
  ![0, v205.toNat, 0]
def k0_off2 : Fin 3 → Nat :=
  let c0_63 : Index := 0#32
  let c0_i32_59 : BitVec 32 := 0#32
  let c8_i32_60 : BitVec 32 := 8#32
  let v203 : BitVec 32 := Scalar.muli c0_i32_59 c8_i32_60
  let v204 : BitVec 32 := v203
  let v208 : Index := Scalar.indexCast v204
  let c128 : Index := 128#32
  ![0, v208.toNat, 128]
def k0_off3 : Fin 3 → Nat :=
  let c0_64 : Index := 0#32
  let c0_i32_59 : BitVec 32 := 0#32
  let c8_i32_60 : BitVec 32 := 8#32
  let v203 : BitVec 32 := Scalar.muli c0_i32_59 c8_i32_60
  let v204 : BitVec 32 := v203
  let v211 : Index := Scalar.indexCast v204
  let c256 : Index := 256#32
  ![0, v211.toNat, 256]
def k0_off4 : Fin 3 → Nat :=
  let c0_65 : Index := 0#32
  let c0_i32_59 : BitVec 32 := 0#32
  let c8_i32_60 : BitVec 32 := 8#32
  let v203 : BitVec 32 := Scalar.muli c0_i32_59 c8_i32_60
  let v204 : BitVec 32 := v203
  let v214 : Index := Scalar.indexCast v204
  let c384 : Index := 384#32
  ![0, v214.toNat, 384]
def k0_off5 : Fin 3 → Nat :=
  let c0_66 : Index := 0#32
  let c0_i32_59 : BitVec 32 := 0#32
  let c8_i32_60 : BitVec 32 := 8#32
  let v203 : BitVec 32 := Scalar.muli c0_i32_59 c8_i32_60
  let v204 : BitVec 32 := v203
  let v225 : Index := Scalar.indexCast v204
  let c1024 : Index := 1024#32
  ![0, v225.toNat, 1024]
def k0_off6 : Fin 3 → Nat :=
  let c0_67 : Index := 0#32
  let c0_i32_59 : BitVec 32 := 0#32
  let c8_i32_60 : BitVec 32 := 8#32
  let v203 : BitVec 32 := Scalar.muli c0_i32_59 c8_i32_60
  let v204 : BitVec 32 := v203
  let v228 : Index := Scalar.indexCast v204
  let c1152 : Index := 1152#32
  ![0, v228.toNat, 1152]
def k0_off7 : Fin 3 → Nat :=
  let c0_68 : Index := 0#32
  let c0_i32_59 : BitVec 32 := 0#32
  let c8_i32_60 : BitVec 32 := 8#32
  let v203 : BitVec 32 := Scalar.muli c0_i32_59 c8_i32_60
  let v204 : BitVec 32 := v203
  let v231 : Index := Scalar.indexCast v204
  let c1280 : Index := 1280#32
  ![0, v231.toNat, 1280]
def k0_off8 : Fin 3 → Nat :=
  let c0_69 : Index := 0#32
  let c0_i32_59 : BitVec 32 := 0#32
  let c8_i32_60 : BitVec 32 := 8#32
  let v203 : BitVec 32 := Scalar.muli c0_i32_59 c8_i32_60
  let v204 : BitVec 32 := v203
  let v234 : Index := Scalar.indexCast v204
  let c1408 : Index := 1408#32
  ![0, v234.toNat, 1408]
def k0_off9 : Fin 3 → Nat :=
  let c0_70 : Index := 0#32
  let c0_i32_59 : BitVec 32 := 0#32
  let c8_i32_60 : BitVec 32 := 8#32
  let v203 : BitVec 32 := Scalar.muli c0_i32_59 c8_i32_60
  let v204 : BitVec 32 := v203
  let v237 : Index := Scalar.indexCast v204
  let c1536 : Index := 1536#32
  ![0, v237.toNat, 1536]
def k0_off10 : Fin 3 → Nat :=
  let c0_71 : Index := 0#32
  let c0_i32_59 : BitVec 32 := 0#32
  let c8_i32_60 : BitVec 32 := 8#32
  let v203 : BitVec 32 := Scalar.muli c0_i32_59 c8_i32_60
  let v204 : BitVec 32 := v203
  let v240 : Index := Scalar.indexCast v204
  let c1664 : Index := 1664#32
  ![0, v240.toNat, 1664]
def k0_off11 : Fin 3 → Nat :=
  let c0_72 : Index := 0#32
  let c0_i32_59 : BitVec 32 := 0#32
  let c8_i32_60 : BitVec 32 := 8#32
  let v203 : BitVec 32 := Scalar.muli c0_i32_59 c8_i32_60
  let v204 : BitVec 32 := v203
  let v243 : Index := Scalar.indexCast v204
  let c1792 : Index := 1792#32
  ![0, v243.toNat, 1792]
def k0_off12 : Fin 3 → Nat :=
  let c0_73 : Index := 0#32
  let c0_i32_59 : BitVec 32 := 0#32
  let c8_i32_60 : BitVec 32 := 8#32
  let v203 : BitVec 32 := Scalar.muli c0_i32_59 c8_i32_60
  let v204 : BitVec 32 := v203
  let v246 : Index := Scalar.indexCast v204
  let c1920 : Index := 1920#32
  ![0, v246.toNat, 1920]
def k0_off13 : Fin 2 → Nat :=
  let c0_i32_59 : BitVec 32 := 0#32
  let c8_i32_60 : BitVec 32 := 8#32
  let v203 : BitVec 32 := Scalar.muli c0_i32_59 c8_i32_60
  let v204 : BitVec 32 := v203
  let v249 : Index := Scalar.indexCast v204
  let c0_74 : Index := 0#32
  ![v249.toNat, 0]
def k0_off14 : Fin 2 → Nat :=
  let c0_i32_59 : BitVec 32 := 0#32
  let c8_i32_60 : BitVec 32 := 8#32
  let v203 : BitVec 32 := Scalar.muli c0_i32_59 c8_i32_60
  let v204 : BitVec 32 := v203
  let v251 : Index := Scalar.indexCast v204
  let c128_75 : Index := 128#32
  ![v251.toNat, 128]
def k0_off15 : Fin 2 → Nat :=
  let c0_i32_59 : BitVec 32 := 0#32
  let c8_i32_60 : BitVec 32 := 8#32
  let v203 : BitVec 32 := Scalar.muli c0_i32_59 c8_i32_60
  let v204 : BitVec 32 := v203
  let v253 : Index := Scalar.indexCast v204
  let c256_76 : Index := 256#32
  ![v253.toNat, 256]
def k0_off16 : Fin 2 → Nat :=
  let c0_i32_59 : BitVec 32 := 0#32
  let c8_i32_60 : BitVec 32 := 8#32
  let v203 : BitVec 32 := Scalar.muli c0_i32_59 c8_i32_60
  let v204 : BitVec 32 := v203
  let v255 : Index := Scalar.indexCast v204
  let c384_77 : Index := 384#32
  ![v255.toNat, 384]
def k0_off17 : Fin 3 → Nat :=
  let c0_151 : Index := 0#32
  let c0_i32_59 : BitVec 32 := 0#32
  let c8_i32_60 : BitVec 32 := 8#32
  let v203 : BitVec 32 := Scalar.muli c0_i32_59 c8_i32_60
  let v204 : BitVec 32 := v203
  let v725 : Index := Scalar.indexCast v204
  let c0_152 : Index := 0#32
  ![0, v725.toNat, 0]
def k0_off18 : Fin 3 → Nat :=
  let c0_161 : Index := 0#32
  let c0_i32_59 : BitVec 32 := 0#32
  let c8_i32_60 : BitVec 32 := 8#32
  let v203 : BitVec 32 := Scalar.muli c0_i32_59 c8_i32_60
  let v204 : BitVec 32 := v203
  let v749 : Index := Scalar.indexCast v204
  let c128_162 : Index := 128#32
  ![0, v749.toNat, 128]
def k0_off19 : Fin 3 → Nat :=
  let c0_171 : Index := 0#32
  let c0_i32_59 : BitVec 32 := 0#32
  let c8_i32_60 : BitVec 32 := 8#32
  let v203 : BitVec 32 := Scalar.muli c0_i32_59 c8_i32_60
  let v204 : BitVec 32 := v203
  let v773 : Index := Scalar.indexCast v204
  let c256_172 : Index := 256#32
  ![0, v773.toNat, 256]
def k0_off20 : Fin 3 → Nat :=
  let c0_181 : Index := 0#32
  let c0_i32_59 : BitVec 32 := 0#32
  let c8_i32_60 : BitVec 32 := 8#32
  let v203 : BitVec 32 := Scalar.muli c0_i32_59 c8_i32_60
  let v204 : BitVec 32 := v203
  let v797 : Index := Scalar.indexCast v204
  let c384_182 : Index := 384#32
  ![0, v797.toNat, 384]
def k0_cond2 (i : grid0.Coords) : BitVec 1 :=
  let arg1 : BitVec 32 := BitVec.ofNat 32 (i 1).val
  let c0_i32_184 : BitVec 32 := 0#32
  let v801 : BitVec 1 := Scalar.cmpi .eq arg1 c0_i32_184
  let v802 : BitVec 32 := Scalar.extui v801
  let c0_i32_185 : BitVec 32 := 0#32
  let v803 : BitVec 1 := Scalar.cmpi .ne v802 c0_i32_185
  v803

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== HgrnSRefIdeal.lean ====
abbrev S32x8x2048 : Shape := ⟨3, ![32, 8, 2048]⟩
abbrev S512 : Shape := ⟨1, ![512]⟩
abbrev S32x4x128x128 : Shape := ⟨4, ![32, 4, 128, 128]⟩
abbrev S32x4x2048 : Shape := ⟨3, ![32, 4, 2048]⟩
abbrev S32x4x512 : Shape := ⟨3, ![32, 4, 512]⟩
abbrev S_ : Shape := ⟨0, ![]⟩
abbrev S1x1x512 : Shape := ⟨3, ![1, 1, 512]⟩
abbrev S32x4x4x128 : Shape := ⟨4, ![32, 4, 4, 128]⟩
abbrev S32x1x4x128 : Shape := ⟨4, ![32, 1, 4, 128]⟩
abbrev S32x4x128 : Shape := ⟨3, ![32, 4, 128]⟩
abbrev S32x4x128x1 : Shape := ⟨4, ![32, 4, 128, 1]⟩
abbrev S32x4x1x128 : Shape := ⟨4, ![32, 4, 1, 128]⟩

abbrev nBuf : Space → Nat
  | .hbm => 125
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S512, .f32⟩
  | .hbm, ⟨2, _⟩ => ⟨S512, .f32⟩
  | .hbm, ⟨3, _⟩ => ⟨S32x4x128x128, .f32⟩
  | .hbm, ⟨4, _⟩ => ⟨S32x4x2048, .f32⟩
  | .hbm, ⟨5, _⟩ => ⟨S32x4x512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S32x4x512, .f32⟩
  | .hbm, ⟨13, _⟩ => ⟨S_, .f32⟩
  | .hbm, ⟨14, _⟩ => ⟨S32x4x512, .f32⟩
  | .hbm, ⟨15, _⟩ => ⟨S32x4x512, .f32⟩
  | .hbm, ⟨16, _⟩ => ⟨S32x4x512, .f32⟩
  | .hbm, ⟨17, _⟩ => ⟨S32x4x512, .f32⟩
  | .hbm, ⟨18, _⟩ => ⟨S32x4x512, .i1⟩
  | .hbm, ⟨19, _⟩ => ⟨S32x4x512, .f32⟩
  | .hbm, ⟨20, _⟩ => ⟨S32x4x512, .f32⟩
  | .hbm, ⟨21, _⟩ => ⟨S32x4x512, .f32⟩
  | .hbm, ⟨22, _⟩ => ⟨S32x4x512, .f32⟩
  | .hbm, ⟨23, _⟩ => ⟨S32x4x512, .f32⟩
  | .hbm, ⟨24, _⟩ => ⟨S32x4x512, .f32⟩
  | .hbm, ⟨25, _⟩ => ⟨S32x4x512, .f32⟩
  | .hbm, ⟨26, _⟩ => ⟨S32x4x512, .f32⟩
  | .hbm, ⟨27, _⟩ => ⟨S32x4x512, .f32⟩
  | .hbm, ⟨28, _⟩ => ⟨S1x1x512, .f32⟩
  | .hbm, ⟨29, _⟩ => ⟨S32x4x512, .f32⟩
  | .hbm, ⟨30, _⟩ => ⟨S32x4x512, .f32⟩
  | .hbm, ⟨31, _⟩ => ⟨S1x1x512, .f32⟩
  | .hbm, ⟨32, _⟩ => ⟨S32x4x512, .f32⟩
  | .hbm, ⟨33, _⟩ => ⟨S32x4x512, .f32⟩
  | .hbm, ⟨34, _⟩ => ⟨S32x4x512, .f32⟩
  | .hbm, ⟨35, _⟩ => ⟨S32x4x512, .f32⟩
  | .hbm, ⟨36, _⟩ => ⟨S32x4x512, .i1⟩
  | .hbm, ⟨37, _⟩ => ⟨S32x4x512, .f32⟩
  | .hbm, ⟨38, _⟩ => ⟨S32x4x512, .f32⟩
  | .hbm, ⟨39, _⟩ => ⟨S32x4x512, .f32⟩
  | .hbm, ⟨40, _⟩ => ⟨S32x4x512, .f32⟩
  | .hbm, ⟨41, _⟩ => ⟨S32x4x512, .f32⟩
  | .hbm, ⟨42, _⟩ => ⟨S32x4x512, .f32⟩
  | .hbm, ⟨43, _⟩ => ⟨S32x4x512, .f32⟩
  | .hbm, ⟨44, _⟩ => ⟨S32x4x512, .f32⟩
  | .hbm, ⟨45, _⟩ => ⟨S32x4x512, .f32⟩
  | .hbm, ⟨46, _⟩ => ⟨S32x4x4x128, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S32x4x512, .f32⟩
  | .hbm, ⟨51, _⟩ => ⟨S32x4x512, .f32⟩
  | .hbm, ⟨52, _⟩ => ⟨S32x4x512, .f32⟩
  | .hbm, ⟨53, _⟩ => ⟨S_, .f32⟩
  | .hbm, ⟨54, _⟩ => ⟨S32x4x512, .f32⟩
  | .hbm, ⟨55, _⟩ => ⟨S32x4x512, .f32⟩
  | .hbm, ⟨56, _⟩ => ⟨S_, .f32⟩
  | .hbm, ⟨57, _⟩ => ⟨S32x4x512, .f32⟩
  | .hbm, ⟨58, _⟩ => ⟨S32x4x512, .f32⟩
  | .hbm, ⟨59, _⟩ => ⟨S1x1x512, .f32⟩
  | .hbm, ⟨60, _⟩ => ⟨S32x4x512, .f32⟩
  | .hbm, ⟨61, _⟩ => ⟨S32x4x512, .f32⟩
  | .hbm, ⟨62, _⟩ => ⟨S32x4x4x128, .f32⟩
  | .hbm, ⟨63, _⟩ => ⟨S32x4x512, .f32⟩
  | .hbm, ⟨64, _⟩ => ⟨S32x4x4x128, .f32⟩
  | .hbm, ⟨65, _⟩ => ⟨S32x1x4x128, .f32⟩
  | .hbm, ⟨66, _⟩ => ⟨S32x4x128, .f32⟩
  | .hbm, ⟨67, _⟩ => ⟨S32x4x128x1, .f32⟩
  | .hbm, ⟨68, _⟩ => ⟨S32x4x128x128, .f32⟩
  | .hbm, ⟨69, _⟩ => ⟨S32x4x128x128, .f32⟩
  | .hbm, ⟨70, _⟩ => ⟨S32x1x4x128, .f32⟩
  | .hbm, ⟨71, _⟩ => ⟨S32x4x128, .f32⟩
  | .hbm, ⟨72, _⟩ => ⟨S32x4x128x1, .f32⟩
  | .hbm, ⟨73, _⟩ => ⟨S32x1x4x128, .f32⟩
  | .hbm, ⟨74, _⟩ => ⟨S32x4x128, .f32⟩
  | .hbm, ⟨75, _⟩ => ⟨S32x4x1x128, .f32⟩
  | .hbm, ⟨76, _⟩ => ⟨S32x4x128x128, .f32⟩
  | .hbm, ⟨77, _⟩ => ⟨S32x4x128x128, .f32⟩
  | .hbm, ⟨78, _⟩ => ⟨S32x4x128x128, .f32⟩
  | .hbm, ⟨79, _⟩ => ⟨S32x4x128x128, .f32⟩
  | .hbm, ⟨80, _⟩ => ⟨S32x1x4x128, .f32⟩
  | .hbm, ⟨81, _⟩ => ⟨S32x4x128, .f32⟩
  | .hbm, ⟨82, _⟩ => ⟨S32x4x128x1, .f32⟩
  | .hbm, ⟨83, _⟩ => ⟨S32x4x128x128, .f32⟩
  | .hbm, ⟨84, _⟩ => ⟨S32x4x128x128, .f32⟩
  | .hbm, ⟨85, _⟩ => ⟨S32x1x4x128, .f32⟩
  | .hbm, ⟨86, _⟩ => ⟨S32x4x128, .f32⟩
  | .hbm, ⟨87, _⟩ => ⟨S32x4x128x1, .f32⟩
  | .hbm, ⟨88, _⟩ => ⟨S32x1x4x128, .f32⟩
  | .hbm, ⟨89, _⟩ => ⟨S32x4x128, .f32⟩
  | .hbm, ⟨90, _⟩ => ⟨S32x4x1x128, .f32⟩
  | .hbm, ⟨91, _⟩ => ⟨S32x4x128x128, .f32⟩
  | .hbm, ⟨92, _⟩ => ⟨S32x4x128x128, .f32⟩
  | .hbm, ⟨93, _⟩ => ⟨S32x4x128x128, .f32⟩
  | .hbm, ⟨94, _⟩ => ⟨S32x4x128x128, .f32⟩
  | .hbm, ⟨95, _⟩ => ⟨S32x1x4x128, .f32⟩
  | .hbm, ⟨96, _⟩ => ⟨S32x4x128, .f32⟩
  | .hbm, ⟨97, _⟩ => ⟨S32x4x128x1, .f32⟩
  | .hbm, ⟨98, _⟩ => ⟨S32x4x128x128, .f32⟩
  | .hbm, ⟨99, _⟩ => ⟨S32x4x128x128, .f32⟩
  | .hbm, ⟨100, _⟩ => ⟨S32x1x4x128, .f32⟩
  | .hbm, ⟨101, _⟩ => ⟨S32x4x128, .f32⟩
  | .hbm, ⟨102, _⟩ => ⟨S32x4x128x1, .f32⟩
  | .hbm, ⟨103, _⟩ => ⟨S32x1x4x128, .f32⟩
  | .hbm, ⟨104, _⟩ => ⟨S32x4x128, .f32⟩
  | .hbm, ⟨105, _⟩ => ⟨S32x4x1x128, .f32⟩
  | .hbm, ⟨106, _⟩ => ⟨S32x4x128x128, .f32⟩
  | .hbm, ⟨107, _⟩ => ⟨S32x4x128x128, .f32⟩
  | .hbm, ⟨108, _⟩ => ⟨S32x4x128x128, .f32⟩
  | .hbm, ⟨109, _⟩ => ⟨S32x4x128x128, .f32⟩
  | .hbm, ⟨110, _⟩ => ⟨S32x1x4x128, .f32⟩
  | .hbm, ⟨111, _⟩ => ⟨S32x4x128, .f32⟩
  | .hbm, ⟨112, _⟩ => ⟨S32x4x128x1, .f32⟩
  | .hbm, ⟨113, _⟩ => ⟨S32x4x128x128, .f32⟩
  | .hbm, ⟨114, _⟩ => ⟨S32x4x128x128, .f32⟩
  | .hbm, ⟨115, _⟩ => ⟨S32x1x4x128, .f32⟩
  | .hbm, ⟨116, _⟩ => ⟨S32x4x128, .f32⟩
  | .hbm, ⟨117, _⟩ => ⟨S32x4x128x1, .f32⟩
  | .hbm, ⟨118, _⟩ => ⟨S32x1x4x128, .f32⟩
  | .hbm, ⟨119, _⟩ => ⟨S32x4x128, .f32⟩
  | .hbm, ⟨120, _⟩ => ⟨S32x4x1x128, .f32⟩
  | .hbm, ⟨121, _⟩ => ⟨S32x4x128x128, .f32⟩
  | .hbm, ⟨122, _⟩ => ⟨S32x4x128x128, .f32⟩
  | .hbm, ⟨123, _⟩ => ⟨S32x4x128x128, .f32⟩
  | .hbm, ⟨124, _⟩ => ⟨S32x4x128x128, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]
-- ==== Proof.FfnValue.lean ====
/- The feed-forward half step: the hidden layer in two halves, its product, normalised and added back. -/
module

public import proofs.«01_k».proof.Proof.Gen.FfnIdeal.Frame
public import proofs.«01_k».proof.Proof.Gen.FfnRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnRefIdeal.Val

open Cert.FfnRefIdeal Cert.FfnRefIdeal.Gen

def part1 (a0 : FVec Ideal S16384x1024 .f32) :=
  broadcastInDim S16384x1 ![0] bcast_S16384_S16384x1_0 (Host.reduceAdd (mulf a0 a0) (constant S_ .f32 0x00000000#32) reducesTo_S16384x1024_S16384_d1 h_S_)

def part2 (a0 : FVec Ideal S16384x1024 .f32) :=
  addf (Host.divf (part1 a0) (broadcastInDim S16384x1 ![] bcast_S_S16384x1 (constant S_ .f32 0x44800000#32))) (broadcastInDim S16384x1 ![] bcast_S_S16384x1 (constant S_ .f32 0x358637BD#32))

def part3 (a0 : FVec Ideal S16384x1024 .f32) (a1 : FVec Ideal S1024 .f32) :=
  mulf (mulf a0 (broadcastInDim S16384x1024 ![0, 1] bcast_S16384x1_S16384x1024_0_1 (Host.rsqrt (part2 a0)))) (broadcastInDim S16384x1024 ![0, 1] bcast_S1x1024_S16384x1024_0_1 (broadcastInDim S1x1024 ![1] bcast_S1024_S1x1024_1 a1))

def part4 (a0 : FVec Ideal S16384x1024 .f32) (a1 : FVec Ideal S1024 .f32) (a2 : FVec Ideal S1024x5632 .f32) :=
  extractStridedSlice S16384x2816 ![0, 0] (Host.dotGeneral dot_S16384x1024_S1024x5632_S16384x5632_1_0_0_1_n_n none (part3 a0 a1) a2) slices_S16384x5632_S16384x2816_0_0

def part5 (a0 : FVec Ideal S16384x1024 .f32) (a1 : FVec Ideal S1024 .f32) (a2 : FVec Ideal S1024x5632 .f32) :=
  extractStridedSlice S16384x2816 ![0, 2816] (Host.dotGeneral dot_S16384x1024_S1024x5632_S16384x5632_1_0_0_1_n_n none (part3 a0 a1) a2) slices_S16384x5632_S16384x2816_0_2816

def part6 (a0 : FVec Ideal S16384x1024 .f32) (a1 : FVec Ideal S1024 .f32) (a2 : FVec Ideal S1024x5632 .f32) :=
  Host.divf (broadcastInDim S16384x2816 ![] bcast_S_S16384x2816 (constant S_ .f32 0x3F800000#32)) (addf (broadcastInDim S16384x2816 ![] bcast_S_S16384x2816 (constant S_ .f32 0x3F800000#32)) (Host.exp (Host.negf (part4 a0 a1 a2))))

/-- The gated hidden layer times the second weights. -/
def down (a0 : FVec Ideal S16384x1024 .f32) (a1 : FVec Ideal S1024 .f32) (a2 : FVec Ideal S1024x5632 .f32) (a3 : FVec Ideal S2816x1024 .f32) : FVec Ideal S16384x1024 .f32 :=
  Host.dotGeneral dot_S16384x2816_S2816x1024_S16384x1024_1_0_0_1_n_n none (mulf (mulf (part4 a0 a1 a2) (part6 a0 a1 a2)) (part5 a0 a1 a2)) a3

def result (a0 : FVec Ideal S16384x1024 .f32) (a1 : FVec Ideal S1024 .f32) (a2 : FVec Ideal S1024x5632 .f32) (a3 : FVec Ideal S2816x1024 .f32) (a4 : FVec Ideal S1024 .f32) : FVec Ideal S16384x1024 .f32 :=
  addf a0 (mulf (broadcastInDim S16384x1024 ![] bcast_S_S16384x1024 (constant S_ .f32 0x3F000000#32)) (mulf (mulf (down a0 a1 a2 a3) (broadcastInDim S16384x1024 ![0, 1] bcast_S16384x1_S16384x1024_0_1 (Host.rsqrt (addf (Host.divf (broadcastInDim S16384x1 ![0] bcast_S16384_S16384x1_0 (Host.reduceAdd (mulf (down a0 a1 a2 a3) (down a0 a1 a2 a3)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a4))))

end Cert.FfnRefIdeal.Val

namespace Cert.FfnIdeal.Val

open Cert.FfnIdeal Cert.FfnIdeal.Gen
open Cert.FfnRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- One product of the normalised block with a half of the first weights. -/
def proj (x : FVec Ideal S512x1024 .bf16) (w : FVec Ideal S1024x1408 .bf16) : FVec Ideal S512x1408 .f32 :=
  matmul dot_S512x1024_S1024x1408_S512x1408_1_0_0_1_n_n none x (shapeCast S1024x1408 w shapeCasts_S1024x1408_S1024x1408)
    (constant S512x1408 .f32 0x00000000#32)

/-- What one half of the hidden layer adds to the product with the second weights. -/
def half (x : FVec Ideal S512x1024 .bf16) (w w' : FVec Ideal S1024x1408 .bf16) (u : FVec Ideal S1408x1024 .bf16) : FVec Ideal S512x1024 .f32 :=
  matmul dot_S512x1408_S1408x1024_S512x1024_1_0_0_1_n_n none
    (truncf .bf16 (mulf (mulf (proj x w) (logistic (proj x w))) (proj x w')) bitsLt_bf16_f32)
    (shapeCast S1408x1024 u shapeCasts_S1408x1024_S1408x1024) (constant S512x1024 .f32 0x00000000#32)

/-- Both halves, added to zero. -/
def both (x : FVec Ideal S512x1024 .bf16) (w w' v v' : FVec Ideal S1024x1408 .bf16) (u u' : FVec Ideal S1408x1024 .bf16) : FVec Ideal S512x1024 .f32 :=
  addf (addf (broadcast S512x1024 (Scalar.ofBits .f32 0x00000000#32)) (half x w w' u)) (half x v v' u')

/-- The end of the block: normalise, scale, add half of it to the input. -/
def tail (v0 v44 : FVec Ideal S512x1024 .f32) (v45 : FVec Ideal S1x1024 .f32) : FVec Ideal S512x1024 .f32 :=
  addf v0 (mulf (broadcast S512x1024 (Scalar.ofBits .f32 0x3F000000#32))
    (mulf (mulf v44 (broadcastTo S512x1024 (rsqrt (addf (divf (shapeCast S512x1
      (multiReduction .add [1] S512 (mulf v44 v44) 0x00000000#32 reduces_S512x1024_S512 (.inl rfl) rfl) shapeCasts_S512_S512x1)
      (broadcast S512x1 (Scalar.ofBits .f32 0x44800000#32))) (broadcast S512x1 (Scalar.ofBits .f32 0x358637BD#32))))
      broadcasts_S512x1_S512x1024))
      (broadcastTo S512x1024 (shapeCast S1x1024 v45 shapeCasts_S1x1024_S1x1024) broadcasts_S1x1024_S512x1024)))

/-- The stored block is the end of the block over both halves. -/
theorem pay_eq (v0 : FVec Ideal S512x1024 .f32) (v1 v45 : FVec Ideal S1x1024 .f32) (w w' v v' : FVec Ideal S1024x1408 .bf16) (u u' : FVec Ideal S1408x1024 .bf16) :
    k0_pay1 v0 (k0_pay2 v0 v1) (k0_pay3 v0 v1 w w' u) (k0_pay4 v0 v1 v) (k0_pay5 v') (constant S512x1408 .f32 0x00000000#32) u' v45
      = tail v0 (both (k0_pay2 v0 v1) w w' v v' u u') v45 := rfl

/-- The product read at a row and a column. -/
theorem proj_at (x : FVec Ideal S512x1024 .bf16) (w : FVec Ideal S1024x1408 .bf16) (r : Fin 512) (i : Fin 1408) :
    proj x w (ix2 r i) = ∑ k : Fin 1024, x (ix2 r k) * w (ix2 k i) := by
  pointwise [proj]

/-- One half read at a row and a column. -/
theorem half_at (x : FVec Ideal S512x1024 .bf16) (w w' : FVec Ideal S1024x1408 .bf16) (u : FVec Ideal S1408x1024 .bf16) (r : Fin 512) (j : Fin 1024) :
    half x w w' u (ix2 r j) = ∑ i : Fin 1408, proj x w (ix2 r i) * Ideal.div 1 (1 + Ideal.exp (-(proj x w (ix2 r i)))) * proj x w' (ix2 r i) * u (ix2 i j) := by
  pointwise [half]
  rfl

/-- The gate columns of the reference's product. -/
theorem gate_at (a0 : FVec Ideal Cert.FfnRefIdeal.S16384x1024 .f32) (a1 : FVec Ideal Cert.FfnRefIdeal.S1024 .f32) (a2 : FVec Ideal Cert.FfnRefIdeal.S1024x5632 .f32) (R : Fin 16384) (i : Fin 2816) :
    part4 a0 a1 a2 (ix2 R i) = ∑ k : Fin 1024, part3 a0 a1 (ix2 R k) * a2 (ix2 k ⟨i.val, by omega⟩) := by
  pointwise [part4]

/-- The value columns of the reference's product. -/
theorem val_at (a0 : FVec Ideal Cert.FfnRefIdeal.S16384x1024 .f32) (a1 : FVec Ideal Cert.FfnRefIdeal.S1024 .f32) (a2 : FVec Ideal Cert.FfnRefIdeal.S1024x5632 .f32) (R : Fin 16384) (i : Fin 2816) :
    part5 a0 a1 a2 (ix2 R i) = ∑ k : Fin 1024, part3 a0 a1 (ix2 R k) * a2 (ix2 k ⟨2816 + i.val, by omega⟩) := by
  pointwise [part5]

/-- The reference's gated product at a row and a column. -/
theorem down_at (a0 : FVec Ideal Cert.FfnRefIdeal.S16384x1024 .f32) (a1 : FVec Ideal Cert.FfnRefIdeal.S1024 .f32) (a2 : FVec Ideal Cert.FfnRefIdeal.S1024x5632 .f32) (a3 : FVec Ideal Cert.FfnRefIdeal.S2816x1024 .f32) (R : Fin 16384) (j : Fin 1024) :
    down a0 a1 a2 a3 (ix2 R j) = ∑ i : Fin 2816, part4 a0 a1 a2 (ix2 R i) * Ideal.div 1 (1 + Ideal.exp (-(part4 a0 a1 a2 (ix2 R i)))) * part5 a0 a1 a2 (ix2 R i) * a3 (ix2 i j) := by
  pointwise [down, part6]

/-- Both halves together are the reference's product, for a block whose rows and weights are the arrays'. -/
theorem both_at (a0 : FVec Ideal Cert.FfnRefIdeal.S16384x1024 .f32) (a1 : FVec Ideal Cert.FfnRefIdeal.S1024 .f32) (a2 : FVec Ideal Cert.FfnRefIdeal.S1024x5632 .f32) (a3 : FVec Ideal Cert.FfnRefIdeal.S2816x1024 .f32)
    (x : FVec Ideal S512x1024 .bf16) (w w' v v' : FVec Ideal S1024x1408 .bf16) (u u' : FVec Ideal S1408x1024 .bf16) (r : Fin 512) (R : Fin 16384)
    (hx : ∀ k : Fin 1024, x (ix2 r k) = part3 a0 a1 (ix2 R k))
    (hw : ∀ (k : Fin 1024) (i : Fin 1408), w (ix2 k i) = a2 (ix2 k ⟨i.val, by omega⟩))
    (hw' : ∀ (k : Fin 1024) (i : Fin 1408), w' (ix2 k i) = a2 (ix2 k ⟨2816 + i.val, by omega⟩))
    (hv : ∀ (k : Fin 1024) (i : Fin 1408), v (ix2 k i) = a2 (ix2 k ⟨1408 + i.val, by omega⟩))
    (hv' : ∀ (k : Fin 1024) (i : Fin 1408), v' (ix2 k i) = a2 (ix2 k ⟨4224 + i.val, by omega⟩))
    (hu : ∀ (i : Fin 1408) (j : Fin 1024), u (ix2 i j) = a3 (ix2 ⟨i.val, by omega⟩ j))
    (hu' : ∀ (i : Fin 1408) (j : Fin 1024), u' (ix2 i j) = a3 (ix2 ⟨1408 + i.val, by omega⟩ j)) (j : Fin 1024) :
    both x w w' v v' u u' (ix2 r j) = down a0 a1 a2 a3 (ix2 R j) := by
  have h0 : both x w w' v v' u u' (ix2 r j) = half x w w' u (ix2 r j) + half x v v' u' (ix2 r j) := by
    pointwise [both]
  rw [h0, down_at, Fin.sum_univ_two_halves 1408 1408 rfl, half_at, half_at]
  simp only [proj_at, gate_at, val_at, hx, hw, hw', hv, hv', hu, hu']
  refine congrArg₂ (· + ·) rfl ?_
  refine Finset.sum_congr rfl fun i _ => ?_
  refine congrArg₂ (· * ·) (congrArg₂ (· * ·) rfl ?_) rfl
  refine Finset.sum_congr rfl fun k _ => congrArg₂ (· * ·) rfl (congrArg a2 ?_)
  exact (ix2_inj ..).2 ⟨rfl, Fin.ext (by simp only []; omega)⟩

/-- The normalised rows of block `t` are the reference's. -/
theorem norm_at (c : Dev nD) (t : Fin cfg0.N) (r : Fin 512) (k : Fin 1024) :
    k0_pay2 (iblk m c 0 t) (iblk m c 1 t) (ix2 r k)
      = part3 (m ((c : Thread nD τ).loc main_arg0)) (m ((c : Thread nD τ).loc main_arg1)) (ix2 ⟨t.val * 512 + r.val, by have := t.isLt; have : cfg0.N = 32 := rfl; omega⟩ k) := by
  pointwise [k0_pay2, part1, part2, part3]
  blk_point [iblk, V, idx_val t]

/-- Columns of the first weights, as the block holds them. -/
theorem rd_w (c : Dev nD) (t : Fin cfg0.N) (k : Fin 1024) (i : Fin 5632) :
    iblk m c 2 t (ix2 k i) = m ((c : Thread nD τ).loc main_arg2) (ix2 k i) := by
  have he : (win0_2.blk t).view.emb (ix2 k i) = ix2 k i := by blk_ext [idx_val t]
  blk_simp [iblk]
  entry_read
  rw [he]
  pointwise

/-- Rows of the second weights, as the block holds them. -/
theorem rd_u (c : Dev nD) (t : Fin cfg0.N) (i : Fin 2816) (j : Fin 1024) :
    iblk m c 3 t (ix2 i j) = m ((c : Thread nD τ).loc main_arg3) (ix2 i j) := by
  have he : (win0_3.blk t).view.emb (ix2 i j) = ix2 i j := by blk_ext [idx_val t]
  blk_simp [iblk]
  entry_read
  rw [he]
  pointwise

/-- What the body stores at block index `y` of point `t` is the reference at the array index `y` sits at. -/
theorem point (c : Dev nD) (t : Fin cfg0.N) (y : S512x1024.Idx) :
    k0_pay1 (iblk m c 0 t) (k0_pay2 (iblk m c 0 t) (iblk m c 1 t)) (k0_pay3 (iblk m c 0 t) (iblk m c 1 t) (View.ld
      (iblk m c 2 t) r0_2) (View.ld (iblk m c 2 t) r0_3) (View.ld (iblk m c 3 t) r0_4)) (k0_pay4 (iblk m c 0 t) (iblk m
      c 1 t) (View.ld (iblk m c 2 t) r0_5)) (k0_pay5 (View.ld (iblk m c 2 t) r0_6)) (constant S512x1408 .f32
      0x00000000#32) (View.ld (iblk m c 3 t) r0_7) (iblk m c 4 t) y
      = result (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hD := both_at (m ((c : Thread nD τ).loc main_arg0)) (m ((c : Thread nD τ).loc main_arg1)) (m ((c : Thread nD τ).loc main_arg2)) (m ((c : Thread nD τ).loc main_arg3)) (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7)
  have hN : cfg0.N = 32 := rfl
  idx_vars y
  have hy : (((cfg0.win 5).blk t).view.emb (ix2 y0 y1)) = ix2 ⟨t.val * 512 + y0.val, by have := t.isLt; omega⟩ y1 := by
    blk_ext [idx_val t]
  rw [pay_eq, hy]
  have hb : ∀ j : Fin 1024, both (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7) (ix2 y0 j)
      = down (m ((c : Thread nD τ).loc main_arg0)) (m ((c : Thread nD τ).loc main_arg1)) (m ((c : Thread nD τ).loc main_arg2)) (m ((c : Thread nD τ).loc main_arg3)) (ix2 ⟨t.val * 512 + y0.val, by have := t.isLt; omega⟩ j) := by
    intro j
    refine hD y0 _ (fun k => norm_at m c t y0 k) ?_ ?_ ?_ ?_ ?_ ?_ j
    all_goals intro k i; pointwise; first | exact rd_w m c t _ _ | exact rd_u m c t _ _ | skip
  generalize both (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7) = D at hb ⊢
  pointwise [tail, result]
  simp only [hb]
  blk_point [iblk, V, idx_val t]

/-- The result array after the run. -/
theorem final (c : Dev nD) : (dats m 0 c).arrAt 5 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.FfnIdeal.Val

end
-- ==== Proof.MixInValue.lean ====
/- The input projections of the three mixers, their columns shared out over four results. -/
module

public import proofs.«01_k».proof.Proof.Gen.MixInIdeal.Frame
public import proofs.«01_k».proof.Proof.Gen.MixInRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MixInRefIdeal.Val

open Cert.MixInRefIdeal Cert.MixInRefIdeal.Gen

def part1 (a0 : FVec Ideal S16384x1024 .f32) :=
  broadcastInDim S16384x1 ![0] bcast_S16384_S16384x1_0 (Host.reduceAdd (mulf a0 a0) (constant S_ .f32 0x00000000#32) reducesTo_S16384x1024_S16384_d1 h_S_)

def part2 (a0 : FVec Ideal S16384x1024 .f32) :=
  addf (Host.divf (part1 a0) (broadcastInDim S16384x1 ![] bcast_S_S16384x1 (constant S_ .f32 0x44800000#32))) (broadcastInDim S16384x1 ![] bcast_S_S16384x1 (constant S_ .f32 0x358637BD#32))

def part3 (a0 : FVec Ideal S16384x1024 .f32) (a1 : FVec Ideal S1024 .f32) :=
  mulf (mulf a0 (broadcastInDim S16384x1024 ![0, 1] bcast_S16384x1_S16384x1024_0_1 (Host.rsqrt (part2 a0)))) (broadcastInDim S16384x1024 ![0, 1] bcast_S1x1024_S16384x1024_0_1 (broadcastInDim S1x1024 ![1] bcast_S1024_S1x1024_1 a1))

def result_v14 (a0 : FVec Ideal S16384x1024 .f32) (a1 : FVec Ideal S1024 .f32) (a2 : FVec Ideal S1024x8004 .f32) : FVec Ideal S16384x1792 .f32 :=
  extractStridedSlice S16384x1792 ![0, 0] (Host.dotGeneral dot_S16384x1024_S1024x8004_S16384x8004_1_0_0_1_n_n none (part3 a0 a1) a2) slices_S16384x8004_S16384x1792_0_0

def result_v16 (a0 : FVec Ideal S16384x1024 .f32) (a1 : FVec Ideal S1024 .f32) (a2 : FVec Ideal S1024x8004 .f32) : FVec Ideal S16384x1152 .f32 :=
  pad S16384x1152 ![0, 0] ![0, 60] ![0, 0] (extractStridedSlice S16384x1092 ![0, 1792] (Host.dotGeneral dot_S16384x1024_S1024x8004_S16384x8004_1_0_0_1_n_n none (part3 a0 a1) a2) slices_S16384x8004_S16384x1092_0_1792) (sitofp .f32 (constantI S_ 32 0#32)) pads_S16384x1092_S16384x1152_000_0600 h_S_

def result_v17 (a0 : FVec Ideal S16384x1024 .f32) (a1 : FVec Ideal S1024 .f32) (a2 : FVec Ideal S1024x8004 .f32) : FVec Ideal S16384x2048 .f32 :=
  extractStridedSlice S16384x2048 ![0, 2884] (Host.dotGeneral dot_S16384x1024_S1024x8004_S16384x8004_1_0_0_1_n_n none (part3 a0 a1) a2) slices_S16384x8004_S16384x2048_0_2884

def result_v18 (a0 : FVec Ideal S16384x1024 .f32) (a1 : FVec Ideal S1024 .f32) (a2 : FVec Ideal S1024x8004 .f32) : FVec Ideal S16384x3072 .f32 :=
  extractStridedSlice S16384x3072 ![0, 4932] (Host.dotGeneral dot_S16384x1024_S1024x8004_S16384x8004_1_0_0_1_n_n none (part3 a0 a1) a2) slices_S16384x8004_S16384x3072_0_4932

end Cert.MixInRefIdeal.Val

namespace Cert.MixInIdeal.Val

open Cert.MixInIdeal Cert.MixInIdeal.Gen
open Cert.MixInRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- The padding value, the integer zero made a float, is zero. -/
theorem pad_zero : (FloatOps.sitofp FTy.f32 0#32 : Ideal .f32) = (0 : EReal) := by
  show (((0#32 : BitVec 32).toInt : ℝ) : EReal) = 0
  simp

/-- What the host put into this operand before the kernel starts. -/
theorem entry_v0 (c : Dev nD) : V m c main_v0 = broadcastInDim S1x1024 ![1] bcast_S1024_S1x1024_1 (m ((c : Thread nD τ).loc main_arg1)) := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v2 (c : Dev nD) : V m c main_v2 = truncf (F := Ideal) (φ := .f32) .bf16 (extractStridedSlice S1024x1792 ![0, 0] (m ((c : Thread nD τ).loc main_arg2)) slices_S1024x8004_S1024x1792_0_0) bitsLt_bf16_f32 := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v7 (c : Dev nD) : V m c main_v7 = truncf (F := Ideal) (φ := .f32) .bf16 (extractStridedSlice S1024x2048 ![0, 2884] (m ((c : Thread nD τ).loc main_arg2)) slices_S1024x8004_S1024x2048_0_2884) bitsLt_bf16_f32 := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v9 (c : Dev nD) : V m c main_v9 = truncf (F := Ideal) (φ := .f32) .bf16 (extractStridedSlice S1024x3072 ![0, 4932] (m ((c : Thread nD τ).loc main_arg2)) slices_S1024x8004_S1024x3072_0_4932) bitsLt_bf16_f32 := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v5 (c : Dev nD) : V m c main_v5 = truncf (F := Ideal) (φ := .f32) .bf16 (pad S1024x1152 ![0, 0] ![0, 60] ![0, 0] (extractStridedSlice S1024x1092 ![0, 1792] (m ((c : Thread nD τ).loc main_arg2)) slices_S1024x8004_S1024x1092_0_1792) (sitofp .f32 (constantI S_ 32 0#32)) pads_S1024x1092_S1024x1152_000_0600 h_S_) bitsLt_bf16_f32 := by
  show StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- The norm's weights, read from the row the host made of them. -/
theorem rd_g (c : Dev nD) (t : Fin cfg0.N) (k : Fin 1024) :
    iblk m c 1 t (ix2 0 k) = m ((c : Thread nD τ).loc main_arg1) (ix1 k) := by
  have he : (win0_1.blk t).view.emb (ix2 0 k) = ix2 0 k := by blk_ext [idx_val t]
  blk_simp [iblk]
  rw [entry_v0, he]
  pointwise

/-- The first group of columns of the weights. -/
theorem rd_w2 (c : Dev nD) (t : Fin cfg0.N) (k : Fin 1024) (j : Fin 1792) :
    iblk m c 2 t (ix2 k j) = m ((c : Thread nD τ).loc main_arg2) (ix2 k ⟨j.val, by omega⟩) := by
  have he : (win0_2.blk t).view.emb (ix2 k j) = ix2 k j := by blk_ext [idx_val t]
  blk_simp [iblk]
  rw [entry_v2, he]
  pointwise

/-- The third group of columns of the weights. -/
theorem rd_w4 (c : Dev nD) (t : Fin cfg0.N) (k : Fin 1024) (j : Fin 2048) :
    iblk m c 4 t (ix2 k j) = m ((c : Thread nD τ).loc main_arg2) (ix2 k ⟨2884 + j.val, by omega⟩) := by
  have he : (win0_4.blk t).view.emb (ix2 k j) = ix2 k j := by blk_ext [idx_val t]
  blk_simp [iblk]
  rw [entry_v7, he]
  pointwise

/-- The last group of columns of the weights. -/
theorem rd_w5 (c : Dev nD) (t : Fin cfg0.N) (k : Fin 1024) (j : Fin 3072) :
    iblk m c 5 t (ix2 k j) = m ((c : Thread nD τ).loc main_arg2) (ix2 k ⟨4932 + j.val, by omega⟩) := by
  have he : (win0_5.blk t).view.emb (ix2 k j) = ix2 k j := by blk_ext [idx_val t]
  blk_simp [iblk]
  rw [entry_v9, he]
  pointwise

/-- The second group of columns, followed by 60 columns of zeros. -/
theorem rd_w3 (c : Dev nD) (t : Fin cfg0.N) (k : Fin 1024) (j : Fin 1152) :
    (show EReal from iblk m c 3 t (ix2 k j)) = if h : j.val < 1092 then m ((c : Thread nD τ).loc main_arg2) (ix2 k ⟨1792 + j.val, by omega⟩)
      else (0 : EReal) := by
  have he : (win0_3.blk t).view.emb (ix2 k j) = ix2 k j := by blk_ext [idx_val t]
  blk_simp [iblk]
  rw [entry_v5, he]
  pointwise
  rw [pad_zero]

/-- What the body stores at block index `y` of point `t` is the reference at the array index `y` sits at. -/
theorem point_6 (c : Dev nD) (t : Fin cfg0.N) (y : S512x1792.Idx) :
    k0_pay4 (iblk m c 0 t) (iblk m c 1 t) (iblk m c 2 t) y
      = result_v14 (m ((c : Thread nD τ).loc main_arg0)) (m ((c : Thread nD τ).loc main_arg1)) (m ((c : Thread nD τ).loc main_arg2)) (((cfg0.win 6).blk t).view.emb y) := by
  pointwise [k0_pay3, k0_pay4, part1, part2, part3, result_v14]
  set_option backward.isDefEq.respectTransparency false in
  simp only [rd_g, rd_w2]
  blk_point [iblk, V, idx_val t]

/-- The result array after the run. -/
theorem final_6 (c : Dev nD) : (dats m 0 c).arrAt 6 (cfgs 0).N = result_v14 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

/-- Column of block index `y` in the padded result. -/
theorem out_col (t : Fin cfg0.N) (y) : (((((cfg0.win 7).blk t).view.emb y) 1 : Fin 1152) : ℕ) = (y 1 : Fin 1152).val := by
  blk_simp [idx_val t]

set_option maxHeartbeats 1600000 in
/-- What the body stores at block index `y` of point `t` is the reference at the array index `y` sits at. -/
theorem point_7 (c : Dev nD) (t : Fin cfg0.N) (y : S512x1152.Idx) :
    k0_pay5 (iblk m c 0 t) (iblk m c 1 t) (iblk m c 3 t) y
      = result_v16 (m ((c : Thread nD τ).loc main_arg0)) (m ((c : Thread nD τ).loc main_arg1)) (m ((c : Thread nD τ).loc main_arg2)) (((cfg0.win 7).blk t).view.emb y) := by
  have hc := out_col t y
  pointwise [k0_pay3, k0_pay5, part1, part2, part3, result_v16]
  set_option backward.isDefEq.respectTransparency false in
  simp only [rd_g, rd_w3]
  by_cases hj : (y 1 : Fin 1152).val < 1092
  · rw [dif_pos (hc.trans_lt hj)]
    simp only [dif_pos hj]
    blk_point [iblk, V, idx_val t]
  · rw [dif_neg (fun hlt => hj (hc.symm.trans_lt hlt))]
    simp only [dif_neg hj, mul_zero, Finset.sum_const_zero]
    exact pad_zero.symm

/-- The result array after the run. -/
theorem final_7 (c : Dev nD) : (dats m 0 c).arrAt 7 (cfgs 0).N = result_v16 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

set_option maxHeartbeats 1600000 in
/-- The body's 4 column tiles at block index `y` are the reference at the array index `y` sits at. -/
theorem point_8 (c : Dev nD) (t : Fin cfg0.N) (y) :
    out0_8 (iblk m c 0 t) (iblk m c 1 t) (iblk m c 2 t) (iblk m c 3 t) (iblk m c 4 t) (iblk m c 5 t) y
      = result_v17 (m ((c : Thread nD τ).loc main_arg0)) (m ((c : Thread nD τ).loc main_arg1)) (m ((c : Thread nD τ).loc main_arg2)) (((cfg0.win 8).blk t).view.emb y) := by
  canon_tiles x h
  all_goals
    open_payloads; pointwise [part1, part2, part3, result_v17]; simp only [rd_g, rd_w4]
    blk_point [iblk, V, idx_val t]

/-- The result array after the run. -/
theorem final_8 (c : Dev nD) : (dats m 0 c).arrAt 8 (cfgs 0).N = result_v17 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]
  exact point_8 m c t y

set_option maxHeartbeats 1600000 in
/-- The body's 6 column tiles at block index `y` are the reference at the array index `y` sits at. -/
theorem point_9 (c : Dev nD) (t : Fin cfg0.N) (y) :
    out0_9 (iblk m c 0 t) (iblk m c 1 t) (iblk m c 2 t) (iblk m c 3 t) (iblk m c 4 t) (iblk m c 5 t) y
      = result_v18 (m ((c : Thread nD τ).loc main_arg0)) (m ((c : Thread nD τ).loc main_arg1)) (m ((c : Thread nD τ).loc main_arg2)) (((cfg0.win 9).blk t).view.emb y) := by
  canon_tiles x h
  all_goals
    open_payloads; pointwise [part1, part2, part3, result_v18]; simp only [rd_g, rd_w5]
    blk_point [iblk, V, idx_val t]

/-- The result array after the run. -/
theorem final_9 (c : Dev nD) : (dats m 0 c).arrAt 9 (cfgs 0).N = result_v18 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]
  exact point_9 m c t y

end Cert.MixInIdeal.Val

end
-- ==== Proof.MergeValue.lean ====
/- The merge of the three mixers: the kernel stores the gated sum, projected, normalised and added back. -/
module

public import proofs.«01_k».proof.Proof.Gen.MergeIdeal.Frame
public import proofs.«01_k».proof.Proof.Gen.MergeRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MergeRefIdeal.Val

open Cert.MergeRefIdeal Cert.MergeRefIdeal.Gen

def part1 (a4 : FVec Ideal S16384x3072 .f32) :=
  Host.divf (broadcastInDim S16384x3072 ![] bcast_S_S16384x3072 (constant S_ .f32 0x3F800000#32)) (addf (broadcastInDim S16384x3072 ![] bcast_S_S16384x3072 (constant S_ .f32 0x3F800000#32)) (Host.exp (Host.negf a4)))

def part2 (a4 : FVec Ideal S16384x3072 .f32) :=
  shapeCast _ (extractStridedSlice S16384x1x1024 ![0, 0, 0] (shapeCast _ (part1 a4) shapeCasts_S16384x3072_S16384x3x1024) slices_S16384x3x1024_S16384x1x1024_0_0_0) shapeCasts_S16384x1x1024_S16384x1024

def part3 (a4 : FVec Ideal S16384x3072 .f32) :=
  shapeCast _ (extractStridedSlice S16384x1x1024 ![0, 2, 0] (shapeCast _ (part1 a4) shapeCasts_S16384x3072_S16384x3x1024) slices_S16384x3x1024_S16384x1x1024_0_2_0) shapeCasts_S16384x1x1024_S16384x1024

def part4 (a4 : FVec Ideal S16384x3072 .f32) :=
  shapeCast _ (extractStridedSlice S16384x1x1024 ![0, 1, 0] (shapeCast _ (part1 a4) shapeCasts_S16384x3072_S16384x3x1024) slices_S16384x3x1024_S16384x1x1024_0_1_0) shapeCasts_S16384x1x1024_S16384x1024

def part5 (a1 : FVec Ideal S16384x512 .f32) (a2 : FVec Ideal S16384x512 .f32) (a4 : FVec Ideal S16384x3072 .f32) (a5 : FVec Ideal S512x1024 .f32) (a6 : FVec Ideal S512x1024 .f32) :=
  addf (mulf (part2 a4) (Host.dotGeneral dot_S16384x512_S512x1024_S16384x1024_1_0_0_1_n_n none a1 a5)) (mulf (part4 a4) (Host.dotGeneral dot_S16384x512_S512x1024_S16384x1024_1_0_0_1_n_n none a2 a6))

def part6 (a1 : FVec Ideal S16384x512 .f32) (a2 : FVec Ideal S16384x512 .f32) (a3 : FVec Ideal S16384x512 .f32) (a4 : FVec Ideal S16384x3072 .f32) (a5 : FVec Ideal S512x1024 .f32) (a6 : FVec Ideal S512x1024 .f32) (a7 : FVec Ideal S512x1024 .f32) (a8 : FVec Ideal S1024x1024 .f32) :=
  Host.dotGeneral dot_S16384x1024_S1024x1024_S16384x1024_1_0_0_1_n_n none (addf (part5 a1 a2 a4 a5 a6) (mulf (part3 a4) (Host.dotGeneral dot_S16384x512_S512x1024_S16384x1024_1_0_0_1_n_n none a3 a7))) a8

def result (a0 : FVec Ideal S16384x1024 .f32) (a1 : FVec Ideal S16384x512 .f32) (a2 : FVec Ideal S16384x512 .f32) (a3 : FVec Ideal S16384x512 .f32) (a4 : FVec Ideal S16384x3072 .f32) (a5 : FVec Ideal S512x1024 .f32) (a6 : FVec Ideal S512x1024 .f32) (a7 : FVec Ideal S512x1024 .f32) (a8 : FVec Ideal S1024x1024 .f32) (a9 : FVec Ideal S1024 .f32) : FVec Ideal S16384x1024 .f32 :=
  addf a0 (mulf (mulf (part6 a1 a2 a3 a4 a5 a6 a7 a8) (broadcastInDim S16384x1024 ![0, 1] bcast_S16384x1_S16384x1024_0_1 (Host.rsqrt (addf (Host.divf (broadcastInDim S16384x1 ![0] bcast_S16384_S16384x1_0 (Host.reduceAdd (mulf (part6 a1 a2 a3 a4 a5 a6 a7 a8) (part6 a1 a2 a3 a4 a5 a6 a7 a8)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a9)))

end Cert.MergeRefIdeal.Val

namespace Cert.MergeIdeal.Val

open Cert.MergeIdeal Cert.MergeIdeal.Gen
open Cert.MergeRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

set_option maxHeartbeats 1600000 in
/-- The projection of the gated sum, at row `r` of block `t`: the reference's at that row of the array. -/
theorem inner (c : Dev nD) (t : Fin cfg0.N) (r : Fin 512) (j : Fin 1024) :
    k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t) (ix2 r j)
      = part6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, by have := t.isLt; have : cfg0.N = 32 := rfl; omega⟩ j) := by
  pointwise [k0_pay2, part1, part2, part3, part4, part5, part6, Ideal.logistic]
  blk_point [iblk, V, idx_val t]

/-- The end of the block over the projection it was handed. -/
theorem point (c : Dev nD) (t : Fin cfg0.N) (y : S512x1024.Idx) :
    k0_pay1 (k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t)) (iblk m
      c 0 t) (iblk m c 9 t) y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb y) := by
  have hN : cfg0.N = 32 := rfl
  idx_vars y
  have hy : (((cfg0.win 10).blk t).view.emb (ix2 y0 y1)) = ix2 ⟨t.val * 512 + y0.val, by have := t.isLt; omega⟩ y1 := by
    blk_ext [idx_val t]
  have hb := inner m c t y0
  rw [hy]
  generalize (k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t)) = D at hb ⊢
  pointwise [k0_pay1, result]
  simp only [hb]
  blk_point [iblk, V, idx_val t]

/-- The result array after the run. -/
theorem final (c : Dev nD) : (dats m 0 c).arrAt 10 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp; rw [after0_10]; frame_out
  exact point m c t y

end Cert.MergeIdeal.Val

end
-- ==== Proof.CrossQValue.lean ====
/- The query projection of the cross attention: the kernel stores the normalised rows times the weights. -/
module

public import proofs.«01_k».proof.Proof.Gen.CrossQIdeal.Frame
public import proofs.«01_k».proof.Proof.Gen.CrossQRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossQRefIdeal.Val

open Cert.CrossQRefIdeal Cert.CrossQRefIdeal.Gen

def result (a0 : FVec Ideal S16384x1024 .f32) (a1 : FVec Ideal S1024 .f32) (a2 : FVec Ideal S1024x1024 .f32) : FVec Ideal S16384x1024 .f32 :=
  Host.dotGeneral dot_S16384x1024_S1024x1024_S16384x1024_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2

end Cert.CrossQRefIdeal.Val

namespace Cert.CrossQIdeal.Val

open Cert.CrossQIdeal Cert.CrossQIdeal.Gen
open Cert.CrossQRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

set_option maxHeartbeats 1600000 in
/-- What the body stores at block index `y` of point `t` is the reference at the array index `y` sits at. -/
theorem point (c : Dev nD) (t : Fin cfg0.N) (y) :
    out0_3 (iblk m c 0 t) (iblk m c 1 t) (iblk m c 2 t) y
      = result (m ((c : Thread nD τ).loc main_arg0)) (m ((c : Thread nD τ).loc main_arg1)) (m ((c : Thread nD τ).loc
        main_arg2)) (((cfg0.win 3).blk t).view.emb y) := by
  canon_tiles x h; all_goals (open_payloads; pointwise [result]; blk_point [iblk, V, idx_val t])

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.CrossQIdeal.Val

end
-- ==== Proof.MemKvValue.lean ====
/- Keys and values of the memory: the kernel stores both projections side by side. -/
module

public import proofs.«01_k».proof.Proof.Gen.MemKvIdeal.Frame
public import proofs.«01_k».proof.Proof.Gen.MemKvRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MemKvRefIdeal.Val

open Cert.MemKvRefIdeal Cert.MemKvRefIdeal.Gen

def result (a0 : FVec Ideal S1024x1024 .f32) (a1 : FVec Ideal S1024x1024 .f32) (a2 : FVec Ideal S1024x1024 .f32) : FVec Ideal S1024x2048 .f32 :=
  concatenate S1024x2048 1 [⟨S1024x1024, (Host.dotGeneral dot_S1024x1024_S1024x1024_S1024x1024_1_0_0_1_n_n none a0 a1)⟩, ⟨S1024x1024, (Host.dotGeneral dot_S1024x1024_S1024x1024_S1024x1024_1_0_0_1_n_n none a0 a2)⟩] concatenates_S1024x1024_S1024x1024_S1024x2048_d1

end Cert.MemKvRefIdeal.Val

namespace Cert.MemKvIdeal.Val

open Cert.MemKvIdeal Cert.MemKvIdeal.Gen
open Cert.MemKvRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The weights block holds both weight arrays side by side: column `j` below 1024 is the first one's. -/
theorem rd_w (c : Dev nD) (t : Fin cfg0.N) (k : Fin 1024) (j : Fin 2048) :
    iblk m c 2 t (ix2 k j) = if h : j.val < 1024 then m ((c : Thread nD τ).loc main_arg1) (ix2 k ⟨j.val, h⟩)
      else m ((c : Thread nD τ).loc main_arg2) (ix2 k ⟨j.val - 1024, by omega⟩) := by
  have he : (win0_2.blk t).view.emb (ix2 k j) = ix2 k j := by blk_ext [idx_val t]
  blk_simp [iblk]
  entry_read
  rw [he]
  pointwise

/-- Column `j` of block row `r` in the result array. -/
theorem out_col (t : Fin cfg0.N) (y) : (((((cfg0.win 3).blk t).view.emb y) 1 : Fin 2048) : ℕ) = (y 1 : Fin 2048).val := by
  blk_simp [idx_val t]

set_option maxHeartbeats 1600000 in
/-- The body's four column tiles at block index `y` are the reference at the array index `y` sits at. -/
theorem point (c : Dev nD) (t : Fin cfg0.N) (y) :
    out0_3 (iblk m c 0 t) (iblk m c 1 t) (iblk m c 2 t) y
      = result (m ((c : Thread nD τ).loc main_arg0)) (m ((c : Thread nD τ).loc main_arg1)) (m ((c : Thread nD τ).loc
        main_arg2)) (((cfg0.win 3).blk t).view.emb y) := by
  have hc := out_col t y
  canon_tiles x h
  · open_payloads; pointwise [result]; simp only [rd_w]
    rw [dif_neg (fun hlt => absurd (hc.symm.trans_lt hlt) (by omega))]
    simp only [dif_neg (show ¬ (1536 + (x 1 : Fin 512).val < 1024) by omega)]
    blk_point [iblk, V, idx_val t]
  · open_payloads; pointwise [result]; simp only [rd_w]
    rw [dif_neg (fun hlt => absurd (hc.symm.trans_lt hlt) (by omega))]
    simp only [dif_neg (show ¬ (1024 + (x 1 : Fin 512).val < 1024) by omega)]
    blk_point [iblk, V, idx_val t]
  · open_payloads; pointwise [result]; simp only [rd_w]
    rw [dif_pos (hc.trans_lt (by omega))]
    simp only [dif_pos (show 512 + (x 1 : Fin 512).val < 1024 by omega)]
    blk_point [iblk, V, idx_val t]
  · open_payloads; pointwise [result]; simp only [rd_w]
    rw [dif_pos (hc.trans_lt (by omega))]
    simp only [dif_pos (show (x 1 : Fin 512).val < 1024 by omega)]
    blk_point [iblk, V, idx_val t]

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.MemKvIdeal.Val

end
-- ==== Proof.XattnValue.lean ====
/- The attention over the memory, one head after the other. -/
module

public import proofs.«01_k».proof.Proof.Gen.XattnIdeal.Frame
public import proofs.«01_k».proof.Proof.Gen.XattnRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.XattnRefIdeal.Val

open Cert.XattnRefIdeal Cert.XattnRefIdeal.Gen

def part1 (a0 : FVec Ideal S4x4096x1024 .f32) (a1 : FVec Ideal S4x256x2048 .f32) :=
  Host.dotGeneral dot_S4x4096x4x256_S4x256x4x256_S4x4x4096x256_3_3_1_1_02_02 none (shapeCast _ a0 shapeCasts_S4x4096x1024_S4x4096x4x256) (shapeCast _ (extractStridedSlice S4x256x1024 ![0, 0, 0] a1 slices_S4x256x2048_S4x256x1024_0_0_0) shapeCasts_S4x256x1024_S4x256x4x256)

def part2 (a0 : FVec Ideal S4x4096x1024 .f32) (a1 : FVec Ideal S4x256x2048 .f32) :=
  Host.reduce FloatOps.maximumf (mulf (part1 a0 a1) (broadcastInDim S4x4x4096x256 ![] bcast_S_S4x4x4096x256 (constant S_ .f32 0x3D800000#32))) (constant S_ .f32 0xFF800000#32) reducesTo_S4x4x4096x256_S4x4x4096_d3 h_S_

def part3 (a0 : FVec Ideal S4x4096x1024 .f32) (a1 : FVec Ideal S4x256x2048 .f32) :=
  broadcastInDim S4x4x4096x1 ![0, 1, 2] bcast_S4x4x4096_S4x4x4096x1_0_1_2 (maximumf (broadcastInDim S4x4x4096 ![] bcast_S_S4x4x4096 (constant S_ .f32 0xFF800000#32)) (part2 a0 a1))

def part4 (a0 : FVec Ideal S4x4096x1024 .f32) (a1 : FVec Ideal S4x256x2048 .f32) :=
  subf (mulf (part1 a0 a1) (broadcastInDim S4x4x4096x256 ![] bcast_S_S4x4x4096x256 (constant S_ .f32 0x3D800000#32))) (broadcastInDim S4x4x4096x256 ![0, 1, 2, 3] bcast_S4x4x4096x1_S4x4x4096x256_0_1_2_3 (part3 a0 a1))

def result (a0 : FVec Ideal S4x4096x1024 .f32) (a1 : FVec Ideal S4x256x2048 .f32) : FVec Ideal S4x4096x1024 .f32 :=
  shapeCast _ (transpose S4x4096x4x256 [0, 3, 1, 2] (Host.dotGeneral dot_S4x256x4x256_S4x4x4096x256_S4x4x256x4096_1_3_3_2_02_01 none (shapeCast _ (extractStridedSlice S4x256x1024 ![0, 0, 1024] a1 slices_S4x256x2048_S4x256x1024_0_0_1024) shapeCasts_S4x256x1024_S4x256x4x256) (Host.divf (Host.exp (part4 a0 a1)) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (Host.exp (part4 a0 a1)) (constant S_ .f32 0x00000000#32) reducesTo_S4x4x4096x256_S4x4x4096_d3 h_S_))))) transposes_S4x4x256x4096_S4x4096x4x256_0_3_1_2) shapeCasts_S4x4096x4x256_S4x4096x1024

/-- A scaled score: query row `R` against memory row `j`, in head `h` of batch `B`. -/
def score (a0 : FVec Ideal S4x4096x1024 .f32) (a1 : FVec Ideal S4x256x2048 .f32) (B h : Fin 4) (R : Fin 4096) (j : Fin 256) : EReal :=
  (∑ d : Fin 256, a0 (ix3 B R ⟨h.val * 256 + d.val, by omega⟩) * a1 (ix3 B j ⟨h.val * 256 + d.val, by omega⟩))
    * Ideal.ofBits .f32 0x3D800000#32

/-- The largest score of a query row, from minus infinity on. -/
def top (a0 : FVec Ideal S4x4096x1024 .f32) (a1 : FVec Ideal S4x256x2048 .f32) (B h : Fin 4) (R : Fin 4096) : EReal :=
  (Finset.univ : Finset (Fin 256)).fold max (Ideal.ofBits .f32 0xFF800000#32) (fun j => score a0 a1 B h R j)

/-- A weight before it is divided. -/
def weight (a0 : FVec Ideal S4x4096x1024 .f32) (a1 : FVec Ideal S4x256x2048 .f32) (B h : Fin 4) (R : Fin 4096) (j : Fin 256) : EReal :=
  Ideal.exp (score a0 a1 B h R j - top a0 a1 B h R)

/-- An entry of the attention's output. -/
def entry (a0 : FVec Ideal S4x4096x1024 .f32) (a1 : FVec Ideal S4x256x2048 .f32) (B h : Fin 4) (R : Fin 4096) (d : Fin 256) : EReal :=
  ∑ j : Fin 256, Ideal.div (weight a0 a1 B h R j) (∑ j' : Fin 256, weight a0 a1 B h R j')
    * a1 (ix3 B j ⟨1024 + (h.val * 256 + d.val), by omega⟩)

/-- The reference's scores. -/
theorem part1_at (a0 : FVec Ideal S4x4096x1024 .f32) (a1 : FVec Ideal S4x256x2048 .f32) (B h : Fin 4) (R : Fin 4096) (j : Fin 256) :
    part1 a0 a1 (ix4 B h R j) * Ideal.ofBits .f32 0x3D800000#32 = score a0 a1 B h R j := by
  pointwise [part1, score]

/-- The reference's largest score. -/
theorem part2_at (a0 : FVec Ideal S4x4096x1024 .f32) (a1 : FVec Ideal S4x256x2048 .f32) (B h : Fin 4) (R : Fin 4096) :
    part2 a0 a1 (ix3 B h R) = top a0 a1 B h R := by
  pointwise [part2]
  simp only [part1_at, top]

/-- A fold of the maximum is at least its start. -/
theorem max_fold (b : EReal) (f : Fin 256 → EReal) :
    max b ((Finset.univ : Finset (Fin 256)).fold max b f) = (Finset.univ : Finset (Fin 256)).fold max b f :=
  max_eq_right ((Finset.le_fold_max b).2 (Or.inl le_rfl))

/-- The comparison with minus infinity, over any array of row maxima. -/
theorem bar_at (P : FVec Ideal S4x4x4096 .f32) (B h : Fin 4) (R : Fin 4096) :
    broadcastInDim S4x4x4096x1 ![0, 1, 2] bcast_S4x4x4096_S4x4x4096x1_0_1_2 (maximumf (broadcastInDim S4x4x4096 ![]
      bcast_S_S4x4x4096 (constant S_ .f32 0xFF800000#32)) P) (ix4 B h R 0)
      = max (Ideal.ofBits .f32 0xFF800000#32) (P (ix3 B h R)) := by
  pointwise

/-- The reference's largest score, compared with minus infinity once more. -/
theorem part3_max (a0 : FVec Ideal S4x4096x1024 .f32) (a1 : FVec Ideal S4x256x2048 .f32) (B h : Fin 4) (R : Fin 4096) :
    part3 a0 a1 (ix4 B h R 0) = max (Ideal.ofBits .f32 0xFF800000#32) (part2 a0 a1 (ix3 B h R)) := by
  unfold part3
  generalize part2 a0 a1 = P
  exact bar_at P B h R

/-- Taking the larger of minus infinity and the largest score changes nothing. -/
theorem part3_at (a0 : FVec Ideal S4x4096x1024 .f32) (a1 : FVec Ideal S4x256x2048 .f32) (B h : Fin 4) (R : Fin 4096) :
    part3 a0 a1 (ix4 B h R 0) = top a0 a1 B h R :=
  (part3_max a0 a1 B h R).trans ((congrArg (max _) (part2_at a0 a1 B h R)).trans (max_fold _ _))

/-- The reference's weights before they are divided. -/
theorem part4_at (a0 : FVec Ideal S4x4096x1024 .f32) (a1 : FVec Ideal S4x256x2048 .f32) (B h : Fin 4) (R : Fin 4096) (j : Fin 256) :
    Ideal.exp (part4 a0 a1 (ix4 B h R j)) = weight a0 a1 B h R j := by
  pointwise [part4]
  simp only [part1_at, part3_at, weight]

/-- The reference's output in head `h`. -/
theorem result_at (a0 : FVec Ideal S4x4096x1024 .f32) (a1 : FVec Ideal S4x256x2048 .f32) (B h : Fin 4) (R : Fin 4096) (d : Fin 256) :
    result a0 a1 (ix3 B R ⟨h.val * 256 + d.val, by omega⟩) = entry a0 a1 B h R d := by
  have h1 : (⟨(h.val * 256 + d.val) / 256, by omega⟩ : Fin 4) = h := by apply Fin.ext; show (h.val * 256 + d.val) / 256 = h.val; omega
  pointwise [result]
  simp only [part4_at, entry]
  exact Finset.sum_congr rfl fun x _ => mul_comm _ _

end Cert.XattnRefIdeal.Val

namespace Cert.XattnIdeal.Val

open Cert.XattnIdeal Cert.XattnIdeal.Gen
open Cert.XattnRefIdeal.Val

variable (m : (ℓ : Loc nD τ sig) → Buf (Elt Ideal) ℓ)

/-- Every window's block index at every grid point. -/
theorem idx_val : ∀ t : Fin cfg0.N, win0_0.index t = ![t.val / 8, t.val % 8, 0]
    ∧ win0_1.index t = ![t.val / 8, 0, 0]
    ∧ win0_2.index t = ![t.val / 8, 0, 1]
    ∧ win0_3.index t = ![t.val / 8, t.val % 8, 0] :=
  (by decide +kernel : ∀ t : Fin grid0.N, _)

/-- One head of the kernel at an entry. -/
theorem head_at (a0 : FVec Ideal S4x4096x1024 .f32) (a1 : FVec Ideal S4x256x2048 .f32) (B h : Fin 4) (R : Fin 4096) (r : Fin 512)
    (q : Vec Ideal S1x512x256 .f32) (k v : Vec Ideal S1x256x256 .f32)
    (hq : ∀ d : Fin 256, q (ix3 0 r d) = a0 (ix3 B R ⟨h.val * 256 + d.val, by omega⟩))
    (hk : ∀ (j : Fin 256) (d : Fin 256), k (ix3 0 j d) = a1 (ix3 B j ⟨h.val * 256 + d.val, by omega⟩))
    (hv : ∀ (j : Fin 256) (d : Fin 256), v (ix3 0 j d) = a1 (ix3 B j ⟨1024 + (h.val * 256 + d.val), by omega⟩))
    (d : Fin 256) : k0_pay1 q k v (ix3 0 r d) = entry a0 a1 B h R d := by
  pointwise [k0_pay1]
  simp only [hq, hk, hv]
  simp only [entry, weight, top, score]

/-- The four heads run the same operations. -/
theorem pay_second (q : Vec Ideal S1x512x256 .f32) (k v : Vec Ideal S1x256x256 .f32) : k0_pay3 (k0_pay2 q k) v = k0_pay1 q k v := rfl
theorem pay_third (q : Vec Ideal S1x512x256 .f32) (k v : Vec Ideal S1x256x256 .f32) : k0_pay5 (k0_pay4 q k) v = k0_pay1 q k v := rfl
theorem pay_fourth (q : Vec Ideal S1x512x256 .f32) (k v : Vec Ideal S1x256x256 .f32) : k0_pay6 q k v = k0_pay1 q k v := rfl

/-- The block the body leaves is the reference's block. -/
theorem point (c : Dev nD) (t : Fin cfg0.N) (y) :
    out0_3 (iblk m c 0 t) (iblk m c 1 t) (iblk m c 2 t) y
      = result (m ((c : Thread nD τ).loc main_arg0)) (m ((c : Thread nD τ).loc main_arg1)) (((cfg0.win 3).blk t).view.emb
        y) := by
  have hN : cfg0.N = 32 := rfl
  have ht := t.isLt
  have key : ∀ (h : Fin 4) (r : Fin 512) (d : Fin 256) (q : Vec Ideal S1x512x256 .f32) (k v : Vec Ideal S1x256x256 .f32),
      (∀ d : Fin 256, q (ix3 0 r d) = (iblk m c 0 t) (ix3 0 r ⟨h.val * 256 + d.val, by omega⟩)) →
      (∀ (j : Fin 256) (d : Fin 256), k (ix3 0 j d) = (iblk m c 1 t) (ix3 0 j ⟨h.val * 256 + d.val, by omega⟩)) →
      (∀ (j : Fin 256) (d : Fin 256), v (ix3 0 j d) = (iblk m c 2 t) (ix3 0 j ⟨h.val * 256 + d.val, by omega⟩)) →
      k0_pay1 q k v (ix3 0 r d) = result (m ((c : Thread nD τ).loc main_arg0)) (m ((c : Thread nD τ).loc main_arg1))
        (((cfg0.win 3).blk t).view.emb (ix3 0 r ⟨h.val * 256 + d.val, by omega⟩)) := by
    intro h r d q k v hq hk hv
    have he : (((cfg0.win 3).blk t).view.emb (ix3 0 r ⟨h.val * 256 + d.val, by omega⟩))
        = ix3 ⟨t.val / 8, by omega⟩ ⟨(t.val % 8) * 512 + r.val, by omega⟩ ⟨h.val * 256 + d.val, by omega⟩ := by
      blk_ext [idx_val t]
    rw [he, result_at]
    refine head_at _ _ _ _ _ _ _ _ _ ?_ ?_ ?_ _
    · intro d; rw [hq]; blk_simp [iblk]; entry_read; blk_point [idx_val t]
    · intro j d; rw [hk]; blk_simp [iblk]; entry_read; blk_point [idx_val t]
    · intro j d; rw [hv]; blk_simp [iblk]; entry_read; blk_point [idx_val t]
  rw [out0_3, pay_second, pay_third, pay_fourth]
  idx_vars y
  canon_tiles x h
  · idx_vars x
    have e := key 3 x1 x2 (View.ld (iblk m c 0 t) r0_6) (View.ld (iblk m c 1 t) r0_7) (View.ld (iblk m c 2 t) r0_7)
      (fun d => by pointwise) (fun j d => by pointwise) (fun j d => by pointwise)
    have hy : ix3 y0 y1 y2 = ix3 0 x1 ⟨3 * 256 + x2.val, by omega⟩ := by
      have e0 : y0 = 0 := Fin.ext (by omega)
      have e1 : y1 = x1 := Fin.ext h1
      have e2 : y2 = ⟨3 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 2 x1 x2 (View.ld (iblk m c 0 t) r0_4) (View.ld (iblk m c 1 t) r0_5) (View.ld (iblk m c 2 t) r0_5)
      (fun d => by pointwise) (fun j d => by pointwise) (fun j d => by pointwise)
    have hy : ix3 y0 y1 y2 = ix3 0 x1 ⟨2 * 256 + x2.val, by omega⟩ := by
      have e0 : y0 = 0 := Fin.ext (by omega)
      have e1 : y1 = x1 := Fin.ext h1
      have e2 : y2 = ⟨2 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 1 x1 x2 (View.ld (iblk m c 0 t) r0_2) (View.ld (iblk m c 1 t) r0_3) (View.ld (iblk m c 2 t) r0_3)
      (fun d => by pointwise) (fun j d => by pointwise) (fun j d => by pointwise)
    have hy : ix3 y0 y1 y2 = ix3 0 x1 ⟨1 * 256 + x2.val, by omega⟩ := by
      have e0 : y0 = 0 := Fin.ext (by omega)
      have e1 : y1 = x1 := Fin.ext h1
      have e2 : y2 = ⟨1 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 0 x1 x2 (View.ld (iblk m c 0 t) r0_0) (View.ld (iblk m c 1 t) r0_1) (View.ld (iblk m c 2 t) r0_1)
      (fun d => by pointwise) (fun j d => by pointwise) (fun j d => by pointwise)
    have hy : ix3 y0 y1 y2 = ix3 0 x1 ⟨0 * 256 + x2.val, by have := x2.isLt; omega⟩ := by
      have e0 : y0 = 0 := Fin.ext (by omega)
      have e1 : y1 = x1 := Fin.ext h1
      have e2 : y2 = ⟨0 * 256 + x2.val, by have := x2.isLt; omega⟩ := Fin.ext (by first | exact h2 | (simp only [Nat.zero_mul, Nat.zero_add]; omega))
      subst e0 e1; exact congrArg (ix3 0 _) e2
    have ex : x0 = 0 := Fin.ext (by omega)
    rw [hy, ex]
    exact e

/-- The result array after the run. -/
theorem final (c : Dev nD) : (dats m 0 c).arrAt 3 (cfgs 0).N = result (m ((c : Thread nD τ).loc main_arg0)) (m ((c : Thread nD τ).loc main_arg1)) := by
  refine (dats m 0 c).arrAt_eq_of_covers 3 _ (by decide +kernel) fun t hf y => ?_
  blk_simp; rw [after0_3]
  exact point m c t y

end Cert.XattnIdeal.Val

end
-- ==== Proof.CrossOutValue.lean ====
/- The output projection of the cross attention: its kernel block is the reference product, normalised and added back. -/
module

public import proofs.«01_k».proof.Proof.Gen.CrossOutIdeal.Frame
public import proofs.«01_k».proof.Proof.Gen.CrossOutRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossOutRefIdeal.Val

open Cert.CrossOutRefIdeal Cert.CrossOutRefIdeal.Gen

def result (a0 : FVec Ideal S16384x1024 .f32) (a1 : FVec Ideal S16384x1024 .f32) (a2 : FVec Ideal S1024x1024 .f32) (a3 : FVec Ideal S1024 .f32) : FVec Ideal S16384x1024 .f32 :=
  addf a0 (mulf (mulf (Host.dotGeneral dot_S16384x1024_S1024x1024_S16384x1024_1_0_0_1_n_n none a1 a2) (broadcastInDim S16384x1024 ![0, 1] bcast_S16384x1_S16384x1024_0_1 (Host.rsqrt (addf (Host.divf (broadcastInDim S16384x1 ![0] bcast_S16384_S16384x1_0 (Host.reduceAdd (mulf (Host.dotGeneral dot_S16384x1024_S1024x1024_S16384x1024_1_0_0_1_n_n none a1 a2) (Host.dotGeneral dot_S16384x1024_S1024x1024_S16384x1024_1_0_0_1_n_n none a1 a2)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a3)))

end Cert.CrossOutRefIdeal.Val

namespace Cert.CrossOutIdeal.Val

open Cert.CrossOutIdeal Cert.CrossOutIdeal.Gen
open Cert.CrossOutRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 1 t) (iblk m c 2 t) (iblk m c 0 t) (iblk m c 3 t) y
      = result (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, result]; blk_point [iblk, V, idx_val t]

/-- The result array after the run. -/
theorem final (c : Dev nD) : (dats m 0 c).arrAt 4 (cfgs 0).N = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.CrossOutIdeal.Val

end
-- ==== Proof.FfnSValue.lean ====
/- The feed-forward half step: the hidden layer in two halves, its product, normalised and added back, for the sample. -/
module

public import proofs.«01_k».proof.Proof.Gen.FfnSIdeal.Frame
public import proofs.«01_k».proof.Proof.Gen.FfnSRefIdeal
public import Idealize.ShloMosaic.Lib.Pipeline.ValueKit
public import Idealize.ShloMosaic.Lib.Pointwise

@[expose] public section

set_option maxRecDepth 256

noncomputable section

open Idealize.ShloMosaic Idealize.ShloMosaic.TcCoe Idealize.SL.Sem
open Idealize.ShloMosaic.Pipeline (Dat)
open scoped BigOperators

namespace Cert.FfnSRefIdeal.Val

open Cert.FfnSRefIdeal Cert.FfnSRefIdeal.Gen

def part1 (a0 : FVec Ideal S256x1024 .f32) :=
  broadcastInDim S256x1 ![0] bcast_S256_S256x1_0 (Host.reduceAdd (mulf a0 a0) (constant S_ .f32 0x00000000#32) reducesTo_S256x1024_S256_d1 h_S_)

def part2 (a0 : FVec Ideal S256x1024 .f32) :=
  addf (Host.divf (part1 a0) (broadcastInDim S256x1 ![] bcast_S_S256x1 (constant S_ .f32 0x44800000#32))) (broadcastInDim S256x1 ![] bcast_S_S256x1 (constant S_ .f32 0x358637BD#32))

def part3 (a0 : FVec Ideal S256x1024 .f32) (a1 : FVec Ideal S1024 .f32) :=
  mulf (mulf a0 (broadcastInDim S256x1024 ![0, 1] bcast_S256x1_S256x1024_0_1 (Host.rsqrt (part2 a0)))) (broadcastInDim S256x1024 ![0, 1] bcast_S1x1024_S256x1024_0_1 (broadcastInDim S1x1024 ![1] bcast_S1024_S1x1024_1 a1))

def part4 (a0 : FVec Ideal S256x1024 .f32) (a1 : FVec Ideal S1024 .f32) (a2 : FVec Ideal S1024x5632 .f32) :=
  extractStridedSlice S256x2816 ![0, 0] (Host.dotGeneral dot_S256x1024_S1024x5632_S256x5632_1_0_0_1_n_n none (part3 a0 a1) a2) slices_S256x5632_S256x2816_0_0

def part5 (a0 : FVec Ideal S256x1024 .f32) (a1 : FVec Ideal S1024 .f32) (a2 : FVec Ideal S1024x5632 .f32) :=
  extractStridedSlice S256x2816 ![0, 2816] (Host.dotGeneral dot_S256x1024_S1024x5632_S256x5632_1_0_0_1_n_n none (part3 a0 a1) a2) slices_S256x5632_S256x2816_0_2816

def part6 (a0 : FVec Ideal S256x1024 .f32) (a1 : FVec Ideal S1024 .f32) (a2 : FVec Ideal S1024x5632 .f32) :=
  Host.divf (broadcastInDim S256x2816 ![] bcast_S_S256x2816 (constant S_ .f32 0x3F800000#32)) (addf (broadcastInDim S256x2816 ![] bcast_S_S256x2816 (constant S_ .f32 0x3F800000#32)) (Host.exp (Host.negf (part4 a0 a1 a2))))

/-- The gated hidden layer times the second weights. -/
def down (a0 : FVec Ideal S256x1024 .f32) (a1 : FVec Ideal S1024 .f32) (a2 : FVec Ideal S1024x5632 .f32) (a3 : FVec Ideal S2816x1024 .f32) : FVec Ideal S256x1024 .f32 :=
  Host.dotGeneral dot_S256x2816_S2816x1024_S256x1024_1_0_0_1_n_n none (mulf (mulf (part4 a0 a1 a2) (part6 a0 a1 a2)) (part5 a0 a1 a2)) a3

def result (a0 : FVec Ideal S256x1024 .f32) (a1 : FVec Ideal S1024 .f32) (a2 : FVec Ideal S1024x5632 .f32) (a3 : FVec Ideal S2816x1024 .f32) (a4 : FVec Ideal S1024 .f32) : FVec Ideal S256x1024 .f32 :=
  addf a0 (mulf (broadcastInDim S256x1024 ![] bcast_S_S256x1024 (constant S_ .f32 0x3F000000#32)) (mulf (mulf (down a0 a1 a2 a3) (broadcastInDim S256x1024 ![0, 1] bcast_S256x1_S256x1024_0_1 (Host.rsqrt (addf (Host.divf (broadcastInDim S256x1 ![0] bcast_S256_S256x1_0 (Host.reduceAdd (mulf (down a0 a1 a2 a3) (down a0 a1 a2 a3)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a4))))

end Cert.FfnSRefIdeal.Val

namespace Cert.FfnSIdeal.Val

open Cert.FfnSIdeal Cert.FfnSIdeal.Gen
open Cert.FfnSRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- One product of the normalised block with a half of the first weights. -/
def proj (x : FVec Ideal S256x1024 .bf16) (w : FVec Ideal S1024x1408 .bf16) : FVec Ideal S256x1408 .f32 :=
  matmul dot_S256x1024_S1024x1408_S256x1408_1_0_0_1_n_n none x (shapeCast S1024x1408 w shapeCasts_S1024x1408_S1024x1408)
    (constant S256x1408 .f32 0x00000000#32)

/-- What one half of the hidden layer adds to the product with the second weights. -/
def half (x : FVec Ideal S256x1024 .bf16) (w w' : FVec Ideal S1024x1408 .bf16) (u : FVec Ideal S1408x1024 .bf16) : FVec Ideal S256x1024 .f32 :=
  matmul dot_S256x1408_S1408x1024_S256x1024_1_0_0_1_n_n none
    (truncf .bf16 (mulf (mulf (proj x w) (logistic (proj x w))) (proj x w')) bitsLt_bf16_f32)
    (shapeCast S1408x1024 u shapeCasts_S1408x1024_S1408x1024) (constant S256x1024 .f32 0x00000000#32)

/-- Both halves, added to zero. -/
def both (x : FVec Ideal S256x1024 .bf16) (w w' v v' : FVec Ideal S1024x1408 .bf16) (u u' : FVec Ideal S1408x1024 .bf16) : FVec Ideal S256x1024 .f32 :=
  addf (addf (broadcast S256x1024 (Scalar.ofBits .f32 0x00000000#32)) (half x w w' u)) (half x v v' u')

/-- The end of the block: normalise, scale, add half of it to the input. -/
def tail (v0 v44 : FVec Ideal S256x1024 .f32) (v45 : FVec Ideal S1x1024 .f32) : FVec Ideal S256x1024 .f32 :=
  addf v0 (mulf (broadcast S256x1024 (Scalar.ofBits .f32 0x3F000000#32))
    (mulf (mulf v44 (broadcastTo S256x1024 (rsqrt (addf (divf (shapeCast S256x1
      (multiReduction .add [1] S256 (mulf v44 v44) 0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024))
      (broadcastTo S256x1024 (shapeCast S1x1024 v45 shapeCasts_S1x1024_S1x1024) broadcasts_S1x1024_S256x1024)))

/-- The stored block is the end of the block over both halves. -/
theorem pay_eq (v0 : FVec Ideal S256x1024 .f32) (v1 v45 : FVec Ideal S1x1024 .f32) (w w' v v' : FVec Ideal S1024x1408 .bf16) (u u' : FVec Ideal S1408x1024 .bf16) :
    k0_pay1 v0 (k0_pay2 v0 v1) (k0_pay3 v0 v1 w w' u) (k0_pay4 v0 v1 v) (k0_pay5 v') (constant S256x1408 .f32 0x00000000#32) u' v45
      = tail v0 (both (k0_pay2 v0 v1) w w' v v' u u') v45 := rfl

/-- The product read at a row and a column. -/
theorem proj_at (x : FVec Ideal S256x1024 .bf16) (w : FVec Ideal S1024x1408 .bf16) (r : Fin 256) (i : Fin 1408) :
    proj x w (ix2 r i) = ∑ k : Fin 1024, x (ix2 r k) * w (ix2 k i) := by
  pointwise [proj]

/-- One half read at a row and a column. -/
theorem half_at (x : FVec Ideal S256x1024 .bf16) (w w' : FVec Ideal S1024x1408 .bf16) (u : FVec Ideal S1408x1024 .bf16) (r : Fin 256) (j : Fin 1024) :
    half x w w' u (ix2 r j) = ∑ i : Fin 1408, proj x w (ix2 r i) * Ideal.div 1 (1 + Ideal.exp (-(proj x w (ix2 r i)))) * proj x w' (ix2 r i) * u (ix2 i j) := by
  unfold half
  generalize proj x w = P, proj x w' = Q
  pointwise
  rfl

/-- The gate columns of the reference's product. -/
theorem gate_at (a0 : FVec Ideal Cert.FfnSRefIdeal.S256x1024 .f32) (a1 : FVec Ideal Cert.FfnSRefIdeal.S1024 .f32) (a2 : FVec Ideal Cert.FfnSRefIdeal.S1024x5632 .f32) (R : Fin 256) (i : Fin 2816) :
    part4 a0 a1 a2 (ix2 R i) = ∑ k : Fin 1024, part3 a0 a1 (ix2 R k) * a2 (ix2 k ⟨i.val, by omega⟩) := by
  pointwise [part4]

/-- The value columns of the reference's product. -/
theorem val_at (a0 : FVec Ideal Cert.FfnSRefIdeal.S256x1024 .f32) (a1 : FVec Ideal Cert.FfnSRefIdeal.S1024 .f32) (a2 : FVec Ideal Cert.FfnSRefIdeal.S1024x5632 .f32) (R : Fin 256) (i : Fin 2816) :
    part5 a0 a1 a2 (ix2 R i) = ∑ k : Fin 1024, part3 a0 a1 (ix2 R k) * a2 (ix2 k ⟨2816 + i.val, by omega⟩) := by
  pointwise [part5]

/-- The reference's gated product at a row and a column. -/
theorem down_at (a0 : FVec Ideal Cert.FfnSRefIdeal.S256x1024 .f32) (a1 : FVec Ideal Cert.FfnSRefIdeal.S1024 .f32) (a2 : FVec Ideal Cert.FfnSRefIdeal.S1024x5632 .f32) (a3 : FVec Ideal Cert.FfnSRefIdeal.S2816x1024 .f32) (R : Fin 256) (j : Fin 1024) :
    down a0 a1 a2 a3 (ix2 R j) = ∑ i : Fin 2816, part4 a0 a1 a2 (ix2 R i) * Ideal.div 1 (1 + Ideal.exp (-(part4 a0 a1 a2 (ix2 R i)))) * part5 a0 a1 a2 (ix2 R i) * a3 (ix2 i j) := by
  pointwise [down, part6]

/-- Both halves together are the reference's product, for a block whose rows and weights are the arrays'. -/
theorem both_at (a0 : FVec Ideal Cert.FfnSRefIdeal.S256x1024 .f32) (a1 : FVec Ideal Cert.FfnSRefIdeal.S1024 .f32) (a2 : FVec Ideal Cert.FfnSRefIdeal.S1024x5632 .f32) (a3 : FVec Ideal Cert.FfnSRefIdeal.S2816x1024 .f32)
    (x : FVec Ideal S256x1024 .bf16) (w w' v v' : FVec Ideal S1024x1408 .bf16) (u u' : FVec Ideal S1408x1024 .bf16) (r : Fin 256) (R : Fin 256)
    (hx : ∀ k : Fin 1024, x (ix2 r k) = part3 a0 a1 (ix2 R k))
    (hw : ∀ (k : Fin 1024) (i : Fin 1408), w (ix2 k i) = a2 (ix2 k ⟨i.val, by omega⟩))
    (hw' : ∀ (k : Fin 1024) (i : Fin 1408), w' (ix2 k i) = a2 (ix2 k ⟨2816 + i.val, by omega⟩))
    (hv : ∀ (k : Fin 1024) (i : Fin 1408), v (ix2 k i) = a2 (ix2 k ⟨1408 + i.val, by omega⟩))
    (hv' : ∀ (k : Fin 1024) (i : Fin 1408), v' (ix2 k i) = a2 (ix2 k ⟨4224 + i.val, by omega⟩))
    (hu : ∀ (i : Fin 1408) (j : Fin 1024), u (ix2 i j) = a3 (ix2 ⟨i.val, by omega⟩ j))
    (hu' : ∀ (i : Fin 1408) (j : Fin 1024), u' (ix2 i j) = a3 (ix2 ⟨1408 + i.val, by omega⟩ j)) (j : Fin 1024) :
    both x w w' v v' u u' (ix2 r j) = down a0 a1 a2 a3 (ix2 R j) := by
  have h0 : both x w w' v v' u u' (ix2 r j) = half x w w' u (ix2 r j) + half x v v' u' (ix2 r j) := by
    pointwise [both]
  rw [h0, down_at, Fin.sum_univ_two_halves 1408 1408 rfl, half_at, half_at]
  simp only [proj_at, gate_at, val_at, hx, hw, hw', hv, hv', hu, hu']
  refine congrArg₂ (· + ·) rfl ?_
  refine Finset.sum_congr rfl fun i _ => ?_
  refine congrArg₂ (· * ·) (congrArg₂ (· * ·) rfl ?_) rfl
  refine Finset.sum_congr rfl fun k _ => congrArg₂ (· * ·) rfl (congrArg a2 ?_)
  exact (ix2_inj ..).2 ⟨rfl, Fin.ext (by simp only []; omega)⟩

/-- The normalised rows of block `t` are the reference's. -/
theorem norm_at (c : Dev nD) (t : Fin cfg0.N) (r : Fin 256) (k : Fin 1024) :
    k0_pay2 (iblk m c 0 t) (iblk m c 1 t) (ix2 r k)
      = part3 (m ((c : Thread nD τ).loc main_arg0)) (m ((c : Thread nD τ).loc main_arg1)) (ix2 ⟨t.val * 256 + r.val, by have := t.isLt; have : cfg0.N = 1 := rfl; omega⟩ k) := by
  pointwise [k0_pay2, part1, part2, part3]
  blk_point [iblk, V, idx_val t]

/-- Columns of the first weights, as the block holds them. -/
theorem rd_w (c : Dev nD) (t : Fin cfg0.N) (k : Fin 1024) (i : Fin 5632) :
    iblk m c 2 t (ix2 k i) = m ((c : Thread nD τ).loc main_arg2) (ix2 k i) := by
  have he : (win0_2.blk t).view.emb (ix2 k i) = ix2 k i := by blk_ext [idx_val t]
  blk_simp [iblk]
  entry_read
  rw [he]
  pointwise

/-- Rows of the second weights, as the block holds them. -/
theorem rd_u (c : Dev nD) (t : Fin cfg0.N) (i : Fin 2816) (j : Fin 1024) :
    iblk m c 3 t (ix2 i j) = m ((c : Thread nD τ).loc main_arg3) (ix2 i j) := by
  have he : (win0_3.blk t).view.emb (ix2 i j) = ix2 i j := by blk_ext [idx_val t]
  blk_simp [iblk]
  entry_read
  rw [he]
  pointwise

/-- What the body stores at block index `y` of point `t` is the reference at the array index `y` sits at. -/
theorem point (c : Dev nD) (t : Fin cfg0.N) (y : S256x1024.Idx) :
    k0_pay1 (iblk m c 0 t) (k0_pay2 (iblk m c 0 t) (iblk m c 1 t)) (k0_pay3 (iblk m c 0 t) (iblk m c 1 t) (View.ld
      (iblk m c 2 t) r0_2) (View.ld (iblk m c 2 t) r0_3) (View.ld (iblk m c 3 t) r0_4)) (k0_pay4 (iblk m c 0 t) (iblk m
      c 1 t) (View.ld (iblk m c 2 t) r0_5)) (k0_pay5 (View.ld (iblk m c 2 t) r0_6)) (constant S256x1408 .f32
      0x00000000#32) (View.ld (iblk m c 3 t) r0_7) (iblk m c 4 t) y
      = result (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hD := both_at (m ((c : Thread nD τ).loc main_arg0)) (m ((c : Thread nD τ).loc main_arg1)) (m ((c : Thread nD τ).loc main_arg2)) (m ((c : Thread nD τ).loc main_arg3)) (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7)
  have hN : cfg0.N = 1 := rfl
  idx_vars y
  have hy : (((cfg0.win 5).blk t).view.emb (ix2 y0 y1)) = ix2 ⟨t.val * 256 + y0.val, by have := t.isLt; omega⟩ y1 := by
    blk_ext [idx_val t]
  rw [pay_eq, hy]
  have hb : ∀ j : Fin 1024, both (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7) (ix2 y0 j)
      = down (m ((c : Thread nD τ).loc main_arg0)) (m ((c : Thread nD τ).loc main_arg1)) (m ((c : Thread nD τ).loc main_arg2)) (m ((c : Thread nD τ).loc main_arg3)) (ix2 ⟨t.val * 256 + y0.val, by have := t.isLt; omega⟩ j) := by
    intro j
    refine hD y0 _ (fun k => norm_at m c t y0 k) ?_ ?_ ?_ ?_ ?_ ?_ j
    all_goals intro k i; pointwise; first | exact rd_w m c t _ _ | exact rd_u m c t _ _ | skip
  generalize both (k0_pay2 (iblk m c 0 t) (iblk m c 1 t))
    (View.ld (iblk m c 2 t) r0_2) (View.ld (iblk m c 2 t) r0_3) (View.ld (iblk m c 2 t) r0_5) (View.ld (iblk m c 2 t) r0_6)
    (View.ld (iblk m c 3 t) r0_4) (View.ld (iblk m c 3 t) r0_7) = D at hb ⊢
  pointwise [tail, result]
  simp only [hb]
  blk_point [iblk, V, idx_val t]

/-- The result array after the run. -/
theorem final (c : Dev nD) : (dats m 0 c).arrAt 5 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.FfnSIdeal.Val

end
-- ==== Proof.MixInSValue.lean ====
/- The input projections of the three mixers, their columns shared out over four results, for the sample. -/
module

public import proofs.«01_k».proof.Proof.Gen.MixInSIdeal.Frame
public import proofs.«01_k».proof.Proof.Gen.MixInSRefIdeal
public import Idealize.ShloMosaic.Lib.Pipeline.ValueKit
public import Idealize.ShloMosaic.Lib.Pointwise

@[expose] public section

set_option maxRecDepth 256

noncomputable section

open Idealize.ShloMosaic Idealize.ShloMosaic.TcCoe Idealize.SL.Sem
open Idealize.ShloMosaic.Pipeline (Dat)
open scoped BigOperators

namespace Cert.MixInSRefIdeal.Val

open Cert.MixInSRefIdeal Cert.MixInSRefIdeal.Gen

def part1 (a0 : FVec Ideal S256x1024 .f32) :=
  broadcastInDim S256x1 ![0] bcast_S256_S256x1_0 (Host.reduceAdd (mulf a0 a0) (constant S_ .f32 0x00000000#32) reducesTo_S256x1024_S256_d1 h_S_)

def part2 (a0 : FVec Ideal S256x1024 .f32) :=
  addf (Host.divf (part1 a0) (broadcastInDim S256x1 ![] bcast_S_S256x1 (constant S_ .f32 0x44800000#32))) (broadcastInDim S256x1 ![] bcast_S_S256x1 (constant S_ .f32 0x358637BD#32))

def part3 (a0 : FVec Ideal S256x1024 .f32) (a1 : FVec Ideal S1024 .f32) :=
  mulf (mulf a0 (broadcastInDim S256x1024 ![0, 1] bcast_S256x1_S256x1024_0_1 (Host.rsqrt (part2 a0)))) (broadcastInDim S256x1024 ![0, 1] bcast_S1x1024_S256x1024_0_1 (broadcastInDim S1x1024 ![1] bcast_S1024_S1x1024_1 a1))

def result_v14 (a0 : FVec Ideal S256x1024 .f32) (a1 : FVec Ideal S1024 .f32) (a2 : FVec Ideal S1024x8004 .f32) : FVec Ideal S256x1792 .f32 :=
  extractStridedSlice S256x1792 ![0, 0] (Host.dotGeneral dot_S256x1024_S1024x8004_S256x8004_1_0_0_1_n_n none (part3 a0 a1) a2) slices_S256x8004_S256x1792_0_0

def result_v16 (a0 : FVec Ideal S256x1024 .f32) (a1 : FVec Ideal S1024 .f32) (a2 : FVec Ideal S1024x8004 .f32) : FVec Ideal S256x1152 .f32 :=
  pad S256x1152 ![0, 0] ![0, 60] ![0, 0] (extractStridedSlice S256x1092 ![0, 1792] (Host.dotGeneral dot_S256x1024_S1024x8004_S256x8004_1_0_0_1_n_n none (part3 a0 a1) a2) slices_S256x8004_S256x1092_0_1792) (sitofp .f32 (constantI S_ 32 0#32)) pads_S256x1092_S256x1152_000_0600 h_S_

def result_v17 (a0 : FVec Ideal S256x1024 .f32) (a1 : FVec Ideal S1024 .f32) (a2 : FVec Ideal S1024x8004 .f32) : FVec Ideal S256x2048 .f32 :=
  extractStridedSlice S256x2048 ![0, 2884] (Host.dotGeneral dot_S256x1024_S1024x8004_S256x8004_1_0_0_1_n_n none (part3 a0 a1) a2) slices_S256x8004_S256x2048_0_2884

def result_v18 (a0 : FVec Ideal S256x1024 .f32) (a1 : FVec Ideal S1024 .f32) (a2 : FVec Ideal S1024x8004 .f32) : FVec Ideal S256x3072 .f32 :=
  extractStridedSlice S256x3072 ![0, 4932] (Host.dotGeneral dot_S256x1024_S1024x8004_S256x8004_1_0_0_1_n_n none (part3 a0 a1) a2) slices_S256x8004_S256x3072_0_4932

end Cert.MixInSRefIdeal.Val

namespace Cert.MixInSIdeal.Val

open Cert.MixInSIdeal Cert.MixInSIdeal.Gen
open Cert.MixInSRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- The padding value, the integer zero made a float, is zero. -/
theorem pad_zero : (FloatOps.sitofp FTy.f32 0#32 : Ideal .f32) = (0 : EReal) := by
  show (((0#32 : BitVec 32).toInt : ℝ) : EReal) = 0
  simp

/-- What the host put into this operand before the kernel starts. -/
theorem entry_v0 (c : Dev nD) : V m c main_v0 = broadcastInDim S1x1024 ![1] bcast_S1024_S1x1024_1 (m ((c : Thread nD τ).loc main_arg1)) := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v2 (c : Dev nD) : V m c main_v2 = truncf (F := Ideal) (φ := .f32) .bf16 (extractStridedSlice S1024x1792 ![0, 0] (m ((c : Thread nD τ).loc main_arg2)) slices_S1024x8004_S1024x1792_0_0) bitsLt_bf16_f32 := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v7 (c : Dev nD) : V m c main_v7 = truncf (F := Ideal) (φ := .f32) .bf16 (extractStridedSlice S1024x2048 ![0, 2884] (m ((c : Thread nD τ).loc main_arg2)) slices_S1024x8004_S1024x2048_0_2884) bitsLt_bf16_f32 := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v9 (c : Dev nD) : V m c main_v9 = truncf (F := Ideal) (φ := .f32) .bf16 (extractStridedSlice S1024x3072 ![0, 4932] (m ((c : Thread nD τ).loc main_arg2)) slices_S1024x8004_S1024x3072_0_4932) bitsLt_bf16_f32 := by
  show StableHlo.after (List.flatten [hostOps0, hostOps0_1, hostOps0_2]) (fun b => m (c, b)) (Proc.devRef .tc main_v9) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- What the host put into this operand before the kernel starts. -/
theorem entry_v5 (c : Dev nD) : V m c main_v5 = truncf (F := Ideal) (φ := .f32) .bf16 (pad S1024x1152 ![0, 0] ![0, 60] ![0, 0] (extractStridedSlice S1024x1092 ![0, 1792] (m ((c : Thread nD τ).loc main_arg2)) slices_S1024x8004_S1024x1092_0_1792) (sitofp .f32 (constantI S_ 32 0#32)) pads_S1024x1092_S1024x1152_000_0600 h_S_) bitsLt_bf16_f32 := by
  show StableHlo.after (List.flatten [hostOps0, hostOps0_1, hostOps0_2]) (fun b => m (c, b)) (Proc.devRef .tc main_v5) = _
  simp only [hostOps0, hostOps0_1, hostOps0_2, List.flatten_cons, List.flatten_nil, List.append_nil, List.cons_append,
    List.nil_append, StableHlo.TRef.binary, StableHlo.TRef.unary, StableHlo.TRef.nullary, StableHlo.TRef.toBuf, StableHlo.TRef.ofBuf, cast_eq]
  after_results

/-- The norm's weights, read from the row the host made of them. -/
theorem rd_g (c : Dev nD) (t : Fin cfg0.N) (k : Fin 1024) :
    iblk m c 1 t (ix2 0 k) = m ((c : Thread nD τ).loc main_arg1) (ix1 k) := by
  have he : (win0_1.blk t).view.emb (ix2 0 k) = ix2 0 k := by blk_ext [idx_val t]
  blk_simp [iblk]
  rw [entry_v0, he]
  pointwise

/-- The first group of columns of the weights. -/
theorem rd_w2 (c : Dev nD) (t : Fin cfg0.N) (k : Fin 1024) (j : Fin 1792) :
    iblk m c 2 t (ix2 k j) = m ((c : Thread nD τ).loc main_arg2) (ix2 k ⟨j.val, by omega⟩) := by
  have he : (win0_2.blk t).view.emb (ix2 k j) = ix2 k j := by blk_ext [idx_val t]
  blk_simp [iblk]
  rw [entry_v2, he]
  pointwise

/-- The third group of columns of the weights. -/
theorem rd_w4 (c : Dev nD) (t : Fin cfg0.N) (k : Fin 1024) (j : Fin 2048) :
    iblk m c 4 t (ix2 k j) = m ((c : Thread nD τ).loc main_arg2) (ix2 k ⟨2884 + j.val, by omega⟩) := by
  have he : (win0_4.blk t).view.emb (ix2 k j) = ix2 k j := by blk_ext [idx_val t]
  blk_simp [iblk]
  rw [entry_v7, he]
  pointwise

/-- The last group of columns of the weights. -/
theorem rd_w5 (c : Dev nD) (t : Fin cfg0.N) (k : Fin 1024) (j : Fin 3072) :
    iblk m c 5 t (ix2 k j) = m ((c : Thread nD τ).loc main_arg2) (ix2 k ⟨4932 + j.val, by omega⟩) := by
  have he : (win0_5.blk t).view.emb (ix2 k j) = ix2 k j := by blk_ext [idx_val t]
  blk_simp [iblk]
  rw [entry_v9, he]
  pointwise

/-- The second group of columns, followed by 60 columns of zeros. -/
theorem rd_w3 (c : Dev nD) (t : Fin cfg0.N) (k : Fin 1024) (j : Fin 1152) :
    (show EReal from iblk m c 3 t (ix2 k j)) = if h : j.val < 1092 then m ((c : Thread nD τ).loc main_arg2) (ix2 k ⟨1792 + j.val, by omega⟩)
      else (0 : EReal) := by
  have he : (win0_3.blk t).view.emb (ix2 k j) = ix2 k j := by blk_ext [idx_val t]
  blk_simp [iblk]
  rw [entry_v5, he]
  pointwise
  rw [pad_zero]

/-- What the body stores at block index `y` of point `t` is the reference at the array index `y` sits at. -/
theorem point_6 (c : Dev nD) (t : Fin cfg0.N) (y : S256x1792.Idx) :
    k0_pay4 (iblk m c 0 t) (iblk m c 1 t) (iblk m c 2 t) y
      = result_v14 (m ((c : Thread nD τ).loc main_arg0)) (m ((c : Thread nD τ).loc main_arg1)) (m ((c : Thread nD τ).loc main_arg2)) (((cfg0.win 6).blk t).view.emb y) := by
  pointwise [k0_pay3, k0_pay4, part1, part2, part3, result_v14]
  set_option backward.isDefEq.respectTransparency false in
  simp only [rd_g, rd_w2]
  blk_point [iblk, V, idx_val t]

/-- The result array after the run. -/
theorem final_6 (c : Dev nD) : (dats m 0 c).arrAt 6 (cfgs 0).N = result_v14 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]; frame_out
  exact point_6 m c t y

/-- Column of block index `y` in the padded result. -/
theorem out_col (t : Fin cfg0.N) (y) : (((((cfg0.win 7).blk t).view.emb y) 1 : Fin 1152) : ℕ) = (y 1 : Fin 1152).val := by
  blk_simp [idx_val t]

set_option maxHeartbeats 1600000 in
/-- What the body stores at block index `y` of point `t` is the reference at the array index `y` sits at. -/
theorem point_7 (c : Dev nD) (t : Fin cfg0.N) (y : S256x1152.Idx) :
    k0_pay5 (iblk m c 0 t) (iblk m c 1 t) (iblk m c 3 t) y
      = result_v16 (m ((c : Thread nD τ).loc main_arg0)) (m ((c : Thread nD τ).loc main_arg1)) (m ((c : Thread nD τ).loc main_arg2)) (((cfg0.win 7).blk t).view.emb y) := by
  have hc := out_col t y
  pointwise [k0_pay3, k0_pay5, part1, part2, part3, result_v16]
  set_option backward.isDefEq.respectTransparency false in
  simp only [rd_g, rd_w3]
  by_cases hj : (y 1 : Fin 1152).val < 1092
  · rw [dif_pos (hc.trans_lt hj)]
    simp only [dif_pos hj]
    blk_point [iblk, V, idx_val t]
  · rw [dif_neg (fun hlt => hj (hc.symm.trans_lt hlt))]
    simp only [dif_neg hj, mul_zero, Finset.sum_const_zero]
    exact pad_zero.symm

/-- The result array after the run. -/
theorem final_7 (c : Dev nD) : (dats m 0 c).arrAt 7 (cfgs 0).N = result_v16 (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]; frame_out
  exact point_7 m c t y

set_option maxHeartbeats 1600000 in
/-- The body's 4 column tiles at block index `y` are the reference at the array index `y` sits at. -/
theorem point_8 (c : Dev nD) (t : Fin cfg0.N) (y) :
    out0_8 (iblk m c 0 t) (iblk m c 1 t) (iblk m c 2 t) (iblk m c 3 t) (iblk m c 4 t) (iblk m c 5 t) y
      = result_v17 (m ((c : Thread nD τ).loc main_arg0)) (m ((c : Thread nD τ).loc main_arg1)) (m ((c : Thread nD τ).loc main_arg2)) (((cfg0.win 8).blk t).view.emb y) := by
  canon_tiles x h
  all_goals
    open_payloads; pointwise [part1, part2, part3, result_v17]; simp only [rd_g, rd_w4]
    blk_point [iblk, V, idx_val t]

/-- The result array after the run. -/
theorem final_8 (c : Dev nD) : (dats m 0 c).arrAt 8 (cfgs 0).N = result_v17 (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp; rw [after0_8]
  exact point_8 m c t y

set_option maxHeartbeats 1600000 in
/-- The body's 6 column tiles at block index `y` are the reference at the array index `y` sits at. -/
theorem point_9 (c : Dev nD) (t : Fin cfg0.N) (y) :
    out0_9 (iblk m c 0 t) (iblk m c 1 t) (iblk m c 2 t) (iblk m c 3 t) (iblk m c 4 t) (iblk m c 5 t) y
      = result_v18 (m ((c : Thread nD τ).loc main_arg0)) (m ((c : Thread nD τ).loc main_arg1)) (m ((c : Thread nD τ).loc main_arg2)) (((cfg0.win 9).blk t).view.emb y) := by
  canon_tiles x h
  all_goals
    open_payloads; pointwise [part1, part2, part3, result_v18]; simp only [rd_g, rd_w5]
    blk_point [iblk, V, idx_val t]

/-- The result array after the run. -/
theorem final_9 (c : Dev nD) : (dats m 0 c).arrAt 9 (cfgs 0).N = result_v18 (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp; rw [after0_9]
  exact point_9 m c t y

end Cert.MixInSIdeal.Val

end
-- ==== Proof.HgrnSMath.lean ====
/- The arithmetic of the gated recurrence over the extended reals, and what its domain says of the arguments. -/
module

public import proofs.«01_k».proof.Proof.Gen.Pre_hgrn_domain
public import Idealize.ShloMosaic.Lib.Pipeline.ValueKit
public import Idealize.ShloMosaic.Lib.Pointwise
public import Idealize.ShloMosaic.Lib.IdealHost
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open scoped BigOperators

namespace Cert.HgrnSMath

/-- The logistic's logarithm, as both programs compute it. -/
def ls (z : EReal) : EReal := -(max (-z) 0 + Ideal.log1p (Ideal.exp (-FloatOps.absf (F := Ideal) (φ := .f32) (-z))))

/-- The other argument of the log-sum of the forget gate. -/
def low (z l : EReal) : EReal := Ideal.log1p (-l) + ls z

/-- The logarithm of the bounded forget gate. -/
def lg (z l : EReal) : EReal :=
  max (Ideal.log (max l (Ideal.ofBits .f32 0x0DA24260#32))) (low z l)
    + Ideal.log1p (Ideal.exp (-FloatOps.absf (F := Ideal) (φ := .f32) (Ideal.log (max l (Ideal.ofBits .f32 0x0DA24260#32)) - low z l)))

/-- The key of one token. -/
def key (z l : EReal) : EReal := (1 - l) * Ideal.logistic (-z)

/-- The maximum of two reals. -/
theorem max_coe (x y : ℝ) : max (x : EReal) (y : EReal) = ((max x y : ℝ) : EReal) :=
  (EReal.coe_strictMono.monotone.map_max).symm

/-- The absolute value of a real. -/
theorem abs_coe (x : ℝ) : FloatOps.absf (F := Ideal) (φ := .f32) (x : EReal) = ((|x| : ℝ) : EReal) := by
  show max (x : EReal) (-(x : EReal)) = _
  rw [← EReal.coe_neg, max_coe]; rfl

/-- The bound's floor is a positive real. -/
theorem floor_pos : ∃ r : ℝ, 0 < r ∧ Ideal.ofBits .f32 0x0DA24260#32 = (r : EReal) := by
  refine ⟨_, ?_, by simp [Ideal.ofBits, Ideal.ieee, -EReal.coe_mul]; rfl⟩
  positivity

/-- The exponential of a real. -/
theorem exp_coe (x : ℝ) : Ideal.exp (x : EReal) = ((Real.exp x : ℝ) : EReal) := rfl

/-- The logarithm of a positive real. -/
theorem log_coe (x : ℝ) (h : 0 < x) : Ideal.log (x : EReal) = ((Real.log x : ℝ) : EReal) := by
  show (if x ≤ 0 then ⊥ else (Real.log x : EReal)) = _
  rw [if_neg (not_le.2 h)]

/-- The logarithm of one plus an exponential is real. -/
theorem log1p_exp (x : ℝ) : Ideal.log1p (Ideal.exp (x : EReal)) = ((Real.log (1 + Real.exp x) : ℝ) : EReal) := by
  rw [exp_coe, Ideal.log1p, ← EReal.coe_one, ← EReal.coe_add, log_coe _ (by positivity)]

/-- The logistic's logarithm of a real is real. -/
theorem ls_coe (z : ℝ) : ∃ r : ℝ, ls z = r := by
  refine ⟨-(max (-z) 0 + Real.log (1 + Real.exp (-|-z|))), ?_⟩
  rw [ls, ← EReal.coe_neg z, abs_coe, ← EReal.coe_neg |-z|, log1p_exp]
  rw [← EReal.coe_zero, max_coe, ← EReal.coe_add, ← EReal.coe_neg]

/-- The forget gate's logarithm is real where the pre-activation is real and the bound at most one. -/
theorem lg_coe (z l : ℝ) (h : l ≤ 1) : ∃ r : ℝ, lg z l = r := by
  obtain ⟨f, hf, hf'⟩ := floor_pos
  obtain ⟨s, hs⟩ := ls_coe z
  rw [lg, low, hs, hf', max_coe, log_coe _ (lt_max_of_lt_right hf)]
  by_cases h1 : l = 1
  · subst h1
    have e : Ideal.log1p (-((1 : ℝ) : EReal)) = ⊥ := by
      rw [Ideal.log1p, ← EReal.coe_one, ← EReal.coe_neg, ← EReal.coe_add]
      show (if _ ≤ _ then _ else _) = _
      rw [if_pos (by norm_num)]
    rw [e, EReal.bot_add, EReal.coe_sub_bot]
    have a : FloatOps.absf (F := Ideal) (φ := .f32) (⊤ : EReal) = (⊤ : EReal) := by
      show max (⊤ : EReal) (-⊤) = ⊤; simp
    rw [a, EReal.neg_top]
    have e0 : Ideal.log1p (Ideal.exp ⊥) = ((0 : ℝ) : EReal) := by
      show Ideal.log (1 + 0) = _
      rw [add_zero, ← EReal.coe_one, log_coe _ one_pos, Real.log_one]
    rw [e0]
    exact ⟨Real.log (max 1 f), by simp⟩
  · have e : Ideal.log1p (-(l : EReal)) = ((Real.log (1 + -l) : ℝ) : EReal) := by
      rw [Ideal.log1p, ← EReal.coe_one, ← EReal.coe_neg, ← EReal.coe_add, log_coe]
      have : l < 1 := lt_of_le_of_ne h h1
      linarith
    rw [e, ← EReal.coe_add, ← EReal.coe_sub, abs_coe, ← EReal.coe_neg, log1p_exp, max_coe, ← EReal.coe_add]
    exact ⟨_, rfl⟩

/-- The key is real where the pre-activation and the bound are. -/
theorem key_coe (z l : ℝ) : ∃ r : ℝ, key z l = r := by
  refine ⟨(1 - l) * (1 + Real.exp z)⁻¹, ?_⟩
  have h : ((1 : EReal) + ((Real.exp z : ℝ) : EReal)) ≠ 0 := by
    rw [← EReal.coe_one, ← EReal.coe_add]; exact_mod_cast (by positivity : (1 + Real.exp z) ≠ 0)
  rw [key, Ideal.logistic, neg_neg, exp_coe, Ideal.div, if_neg h, one_mul, ← EReal.coe_one, ← EReal.coe_add, ← EReal.coe_inv,
    ← EReal.coe_sub, ← EReal.coe_mul]

/-- Eight rows of which the last four are empty: the chunk's closed form is four steps of the recurrence. -/
theorem four_steps (g k v : Fin 8 → EReal) (s : EReal) (B : Fin 8 → EReal)
    (hB : ∀ i, B i = ∑ x, if x ≤ i then g x else 0)
    (hg : ∀ i : Fin 8, i.val < 4 → ∃ r : ℝ, g i = r) (hg' : ∀ i : Fin 8, ¬ i.val < 4 → g i = 0)
    (hk : ∀ i : Fin 8, i.val < 4 → ∃ r : ℝ, k i = r) (hk' : ∀ i : Fin 8, ¬ i.val < 4 → k i = 0)
    (hv : ∀ i : Fin 8, i.val < 4 → ∃ r : ℝ, v i = r) (hs : ∃ r : ℝ, s = r) :
    s * Ideal.exp (B 7) + ∑ x, v x * (k x * Ideal.exp (B 7 - B x))
      = Ideal.exp (g 3) * (Ideal.exp (g 2) * (Ideal.exp (g 1) * (Ideal.exp (g 0) * s + k 0 * v 0) + k 1 * v 1) + k 2 * v 2) + k 3 * v 3 := by
  obtain ⟨g0, e0⟩ := hg 0 (by decide); obtain ⟨g1, e1⟩ := hg 1 (by decide)
  obtain ⟨g2, e2⟩ := hg 2 (by decide); obtain ⟨g3, e3⟩ := hg 3 (by decide)
  obtain ⟨k0, f0⟩ := hk 0 (by decide); obtain ⟨k1, f1⟩ := hk 1 (by decide)
  obtain ⟨k2, f2⟩ := hk 2 (by decide); obtain ⟨k3, f3⟩ := hk 3 (by decide)
  obtain ⟨v0, w0⟩ := hv 0 (by decide); obtain ⟨v1, w1⟩ := hv 1 (by decide)
  obtain ⟨v2, w2⟩ := hv 2 (by decide); obtain ⟨v3, w3⟩ := hv 3 (by decide)
  obtain ⟨r, rfl⟩ := hs
  have b0 : B 0 = ((g0 : ℝ) : EReal) := by
    rw [hB, Fin.sum_univ_eight]; simp [e0]
  have b1 : B 1 = ((g0 + g1 : ℝ) : EReal) := by
    rw [hB, Fin.sum_univ_eight]; simp [e0, e1]
  have b2 : B 2 = ((g0 + g1 + g2 : ℝ) : EReal) := by
    rw [hB, Fin.sum_univ_eight]; simp [e0, e1, e2]
  have b3 : B 3 = ((g0 + g1 + g2 + g3 : ℝ) : EReal) := by
    rw [hB, Fin.sum_univ_eight]; simp [e0, e1, e2, e3]
  have b7 : B 7 = ((g0 + g1 + g2 + g3 : ℝ) : EReal) := by
    rw [hB, Fin.sum_univ_eight]; simp [e0, e1, e2, e3, hg' 4 (by decide), hg' 5 (by decide), hg' 6 (by decide), hg' 7 (by decide)]
  rw [Fin.sum_univ_eight, hk' 4 (by decide), hk' 5 (by decide), hk' 6 (by decide), hk' 7 (by decide)]
  simp only [zero_mul, mul_zero, add_zero]
  rw [b7, b0, b1, b2, b3, e0, e1, e2, e3, f0, f1, f2, f3, w0, w1, w2, w3]
  simp only [← EReal.coe_sub, exp_coe, ← EReal.coe_mul, ← EReal.coe_add]
  rw [EReal.coe_eq_coe_iff]
  rw [show g0 + g1 + g2 + g3 - g0 = g1 + g2 + g3 by ring, show g0 + g1 + g2 + g3 - (g0 + g1) = g2 + g3 by ring,
    show g0 + g1 + g2 + g3 - (g0 + g1 + g2) = g3 by ring, show g0 + g1 + g2 + g3 - (g0 + g1 + g2 + g3) = 0 by ring]
  simp only [Real.exp_add, Real.exp_zero]
  ring

/-- A value no larger than the bound in magnitude is real. -/
theorem real_of_le (x : EReal) (h : FloatOps.absf (F := Ideal) (φ := .f32) x ≤ Ideal.ofBits .f32 0x7F61B1E6#32) : ∃ r : ℝ, x = r := by
  have hb : ∃ r : ℝ, Ideal.ofBits .f32 0x7F61B1E6#32 = (r : EReal) :=
    ⟨_, by simp [Ideal.ofBits, Ideal.ieee, -EReal.coe_mul]; rfl⟩
  obtain ⟨B, hB⟩ := hb
  rw [hB] at h
  have h' : max x (-x) ≤ (B : EReal) := h
  induction x with
  | bot => exact absurd (le_trans (le_max_right _ _) h') (by simp)
  | top => exact absurd (le_trans (le_max_left _ _) h') (by simp)
  | coe r => exact ⟨r, rfl⟩

/-- A value between zero and one is real, and at most one. -/
theorem real_of_unit (x : EReal) (h0 : 0 ≤ x) (h1 : x ≤ 1) : ∃ r : ℝ, r ≤ 1 ∧ x = r := by
  induction x with
  | bot => exact absurd h0 (by simp)
  | top => exact absurd (top_le_iff.1 h1) (EReal.coe_ne_top 1)
  | coe r => exact ⟨r, by exact_mod_cast h1, rfl⟩

end Cert.HgrnSMath

namespace Cert.Pre_hgrn_domain.Val

open Cert.Pre_hgrn_domain Cert.Pre_hgrn_domain.Gen Cert.HgrnSMath

/-- On the domain every pre-activation, value and state entry is real, and every bound is a real at most one. -/
theorem parts (a0 : FVec Ideal S32x8x2048 .f32) (a1 a2 : FVec Ideal S512 .f32) (a3 : FVec Ideal S32x4x128x128 .f32)
    (h : fn (F := Ideal) a0 a1 a2 a3 = fun _ => 1#1) :
    (∀ (b : Fin 32) (t : Fin 8) (q : Fin 1024), ∃ r : ℝ, a0 (ix3 b t ⟨512 + q.val, by omega⟩) = (r : EReal))
    ∧ (∀ i : Fin 512, ∃ r : ℝ, r ≤ 1 ∧ a1 (ix1 i) = (r : EReal))
    ∧ (∀ (b : Fin 32) (e : Fin 4) (k v : Fin 128), ∃ r : ℝ, a3 (ix4 b e k v) = (r : EReal)) := by
  have h0 := congrFun h ix0
  haveI : Subsingleton S_.Idx := ⟨fun a b => funext fun x => x.elim0⟩
  unfold fn fn_part1 at h0
  dsimp only at h0
  obtain ⟨h1, hs⟩ := IntOp.andi_eq_one.1 h0
  obtain ⟨h2, hl1⟩ := IntOp.andi_eq_one.1 h1
  obtain ⟨hc, hl0⟩ := IntOp.andi_eq_one.1 h2
  have bit : ∀ p : Prop, ∀ [Decidable p], BitVec.ofBool (decide p) = 1#1 → p := by
    intro p _ e; by_contra n; simp [n] at e
  refine ⟨fun b t q => ?_, fun i => ?_, fun b e k v => ?_⟩
  · have q' := Host.reduce_andi_all _ _ _ _ _ hc (ix3 b t q)
    pointwise at q'
    exact real_of_le _ (bit _ q')
  · have q1 := Host.reduce_andi_all _ _ _ _ _ hl1 (ix1 i)
    have q0 := Host.reduce_andi_all _ _ _ _ _ hl0 (ix1 i)
    pointwise at q1
    pointwise at q0
    exact real_of_unit _ (by simpa using bit _ q0) (by simpa using bit _ q1)
  · have q' := Host.reduce_andi_all _ _ _ _ _ hs (ix4 b e k v)
    pointwise at q'
    exact real_of_le _ (bit _ q')

end Cert.Pre_hgrn_domain.Val

end
-- ==== Proof.HgrnSValue.lean ====
/- The gated recurrence of the sample: each block's new state is four steps of the recurrence from the old. -/
module

public import proofs.«01_k».proof.Proof.Gen.HgrnSIdeal.Frame
public import proofs.«01_k».proof.Proof.Gen.HgrnSRefIdeal
public import proofs.«01_k».proof.Proof.HgrnSMath
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.HgrnSRefIdeal.Val

open Cert.HgrnSRefIdeal Cert.HgrnSRefIdeal.Gen Cert.HgrnSMath

def zpart (a0 : FVec Ideal S32x8x2048 .f32) : FVec Ideal S32x4x512 .f32 :=
  extractStridedSlice S32x4x512 ![0, 0, 512] (extractStridedSlice S32x4x2048 ![0, 0, 0] a0 slices_S32x8x2048_S32x4x2048_0_0_0) slices_S32x4x2048_S32x4x512_0_0_512

def nz (a0 : FVec Ideal S32x8x2048 .f32) : FVec Ideal S32x4x512 .f32 :=
  Host.negf (zpart a0)

def lsz (a0 : FVec Ideal S32x8x2048 .f32) : FVec Ideal S32x4x512 .f32 :=
  Host.negf (select (cmpf .une (subf (nz a0) (broadcastInDim S32x4x512 ![] bcast_S_S32x4x512 (constant S_ .f32 0x00000000#32))) (subf (nz a0) (broadcastInDim S32x4x512 ![] bcast_S_S32x4x512 (constant S_ .f32 0x00000000#32)))) (addf (nz a0) (broadcastInDim S32x4x512 ![] bcast_S_S32x4x512 (constant S_ .f32 0x00000000#32))) (addf (maximumf (nz a0) (broadcastInDim S32x4x512 ![] bcast_S_S32x4x512 (constant S_ .f32 0x00000000#32))) (Host.log1p (Host.exp (Host.negf (Host.absf (subf (nz a0) (broadcastInDim S32x4x512 ![] bcast_S_S32x4x512 (constant S_ .f32 0x00000000#32)))))))))

def llb (a1 : FVec Ideal S512 .f32) : FVec Ideal S32x4x512 .f32 :=
  broadcastInDim S32x4x512 ![0, 1, 2] bcast_S1x1x512_S32x4x512_0_1_2 (broadcastInDim S1x1x512 ![2] bcast_S512_S1x1x512_2 (Host.log (maximumf a1 (broadcastInDim S512 ![] bcast_S_S512 (constant S_ .f32 0x0DA24260#32)))))

def rhs (a0 : FVec Ideal S32x8x2048 .f32) (a1 : FVec Ideal S512 .f32) : FVec Ideal S32x4x512 .f32 :=
  addf (broadcastInDim S32x4x512 ![0, 1, 2] bcast_S1x1x512_S32x4x512_0_1_2 (broadcastInDim S1x1x512 ![2] bcast_S512_S1x1x512_2 (Host.log1p (Host.negf a1)))) (lsz a0)

def ff (a0 : FVec Ideal S32x8x2048 .f32) (a1 : FVec Ideal S512 .f32) : FVec Ideal S32x4x4x128 .f32 :=
  shapeCast _ (Host.exp (select (cmpf .une (subf (llb a1) (rhs a0 a1)) (subf (llb a1) (rhs a0 a1))) (addf (llb a1) (rhs a0 a1)) (addf (maximumf (llb a1) (rhs a0 a1)) (Host.log1p (Host.exp (Host.negf (Host.absf (subf (llb a1) (rhs a0 a1))))))))) shapeCasts_S32x4x512_S32x4x4x128

def kk (a0 : FVec Ideal S32x8x2048 .f32) (a1 : FVec Ideal S512 .f32) : FVec Ideal S32x4x4x128 .f32 :=
  shapeCast _ (mulf (broadcastInDim S32x4x512 ![0, 1, 2] bcast_S1x1x512_S32x4x512_0_1_2 (broadcastInDim S1x1x512 ![2] bcast_S512_S1x1x512_2 (subf (broadcastInDim S512 ![] bcast_S_S512 (constant S_ .f32 0x3F800000#32)) a1))) (Host.divf (broadcastInDim S32x4x512 ![] bcast_S_S32x4x512 (constant S_ .f32 0x3F800000#32)) (addf (broadcastInDim S32x4x512 ![] bcast_S_S32x4x512 (constant S_ .f32 0x3F800000#32)) (Host.exp (Host.negf (nz a0)))))) shapeCasts_S32x4x512_S32x4x4x128

def vv (a0 : FVec Ideal S32x8x2048 .f32) : FVec Ideal S32x4x4x128 .f32 :=
  shapeCast _ (extractStridedSlice S32x4x512 ![0, 0, 1024] (extractStridedSlice S32x4x2048 ![0, 0, 0] a0 slices_S32x8x2048_S32x4x2048_0_0_0) slices_S32x4x2048_S32x4x512_0_0_1024) shapeCasts_S32x4x512_S32x4x4x128

def result (a0 : FVec Ideal S32x8x2048 .f32) (a1 : FVec Ideal S512 .f32) (a3 : FVec Ideal S32x4x128x128 .f32) : FVec Ideal S32x4x128x128 .f32 :=
  addf (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 3, 0, 0] (ff a0 a1) slices_S32x4x4x128_S32x1x4x128_0_3_0_0) shapeCasts_S32x1x4x128_S32x4x128))) (addf (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 2, 0, 0] (ff a0 a1) slices_S32x4x4x128_S32x1x4x128_0_2_0_0) shapeCasts_S32x1x4x128_S32x4x128))) (addf (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 1, 0, 0] (ff a0 a1) slices_S32x4x4x128_S32x1x4x128_0_1_0_0) shapeCasts_S32x1x4x128_S32x4x128))) (addf (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 0, 0, 0] (ff a0 a1) slices_S32x4x4x128_S32x1x4x128_0_0_0_0) shapeCasts_S32x1x4x128_S32x4x128))) a3) (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 0, 0, 0] (kk a0 a1) slices_S32x4x4x128_S32x1x4x128_0_0_0_0) shapeCasts_S32x1x4x128_S32x4x128))) (broadcastInDim S32x4x128x128 ![0, 1, 2, 3] bcast_S32x4x1x128_S32x4x128x128_0_1_2_3 (broadcastInDim S32x4x1x128 ![0, 1, 3] bcast_S32x4x128_S32x4x1x128_0_1_3 (shapeCast _ (extractStridedSlice S32x1x4x128 ![0, 0, 0, 0] (vv a0) slices_S32x4x4x128_S32x1x4x128_0_0_0_0) shapeCasts_S32x1x4x128_S32x4x128)))))) (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 1, 0, 0] (kk a0 a1) slices_S32x4x4x128_S32x1x4x128_0_1_0_0) shapeCasts_S32x1x4x128_S32x4x128))) (broadcastInDim S32x4x128x128 ![0, 1, 2, 3] bcast_S32x4x1x128_S32x4x128x128_0_1_2_3 (broadcastInDim S32x4x1x128 ![0, 1, 3] bcast_S32x4x128_S32x4x1x128_0_1_3 (shapeCast _ (extractStridedSlice S32x1x4x128 ![0, 1, 0, 0] (vv a0) slices_S32x4x4x128_S32x1x4x128_0_1_0_0) shapeCasts_S32x1x4x128_S32x4x128)))))) (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 2, 0, 0] (kk a0 a1) slices_S32x4x4x128_S32x1x4x128_0_2_0_0) shapeCasts_S32x1x4x128_S32x4x128))) (broadcastInDim S32x4x128x128 ![0, 1, 2, 3] bcast_S32x4x1x128_S32x4x128x128_0_1_2_3 (broadcastInDim S32x4x1x128 ![0, 1, 3] bcast_S32x4x128_S32x4x1x128_0_1_3 (shapeCast _ (extractStridedSlice S32x1x4x128 ![0, 2, 0, 0] (vv a0) slices_S32x4x4x128_S32x1x4x128_0_2_0_0) shapeCasts_S32x1x4x128_S32x4x128)))))) (mulf (broadcastInDim S32x4x128x128 ![0, 1, 2, 3] bcast_S32x4x128x1_S32x4x128x128_0_1_2_3 (broadcastInDim S32x4x128x1 ![0, 1, 2] bcast_S32x4x128_S32x4x128x1_0_1_2 (shapeCast _ (extractStridedSlice S32x1x4x128 ![0, 3, 0, 0] (kk a0 a1) slices_S32x4x4x128_S32x1x4x128_0_3_0_0) shapeCasts_S32x1x4x128_S32x4x128))) (broadcastInDim S32x4x128x128 ![0, 1, 2, 3] bcast_S32x4x1x128_S32x4x128x128_0_1_2_3 (broadcastInDim S32x4x1x128 ![0, 1, 3] bcast_S32x4x128_S32x4x1x128_0_1_3 (shapeCast _ (extractStridedSlice S32x1x4x128 ![0, 3, 0, 0] (vv a0) slices_S32x4x4x128_S32x1x4x128_0_3_0_0) shapeCasts_S32x1x4x128_S32x4x128))))

/-- The forget gate of one token, head and key column. -/
theorem ff_at (a0 : FVec Ideal S32x8x2048 .f32) (a1 : FVec Ideal S512 .f32) (b : Fin 32) (t : Fin 4) (h : Fin 4) (j : Fin 128) :
    ff a0 a1 (ix4 b t h j) = Ideal.exp (lg (a0 (ix3 b ⟨t.val, by omega⟩ ⟨512 + (h.val * 128 + j.val), by omega⟩)) (a1 (ix1 ⟨h.val * 128 + j.val, by omega⟩))) := by
  pointwise [ff, llb, rhs, lsz, nz, zpart]
  simp only [ne_eq, not_true_eq_false, if_false]
  rfl

/-- The key of one token, head and column. -/
theorem kk_at (a0 : FVec Ideal S32x8x2048 .f32) (a1 : FVec Ideal S512 .f32) (b : Fin 32) (t : Fin 4) (h : Fin 4) (j : Fin 128) :
    kk a0 a1 (ix4 b t h j) = key (a0 (ix3 b ⟨t.val, by omega⟩ ⟨512 + (h.val * 128 + j.val), by omega⟩)) (a1 (ix1 ⟨h.val * 128 + j.val, by omega⟩)) := by
  pointwise [kk, nz, zpart]
  rfl

/-- The value of one token, head and column. -/
theorem vv_at (a0 : FVec Ideal S32x8x2048 .f32) (b : Fin 32) (t : Fin 4) (h : Fin 4) (j : Fin 128) :
    vv a0 (ix4 b t h j) = a0 (ix3 b ⟨t.val, by omega⟩ ⟨1024 + (h.val * 128 + j.val), by omega⟩) := by
  pointwise [vv]
  try rfl

/-- The state after four tokens, step by step. -/
theorem result_at (a0 : FVec Ideal S32x8x2048 .f32) (a1 : FVec Ideal S512 .f32) (a3 : FVec Ideal S32x4x128x128 .f32) (b : Fin 32) (h : Fin 4) (i j : Fin 128) :
    result a0 a1 a3 (ix4 b h i j) = ff a0 a1 (ix4 b 3 h i) *
        (ff a0 a1 (ix4 b 2 h i) *
            (ff a0 a1 (ix4 b 1 h i) * (ff a0 a1 (ix4 b 0 h i) * a3 (ix4 b h i j) + kk a0 a1 (ix4 b 0 h i) * vv a0 (ix4 b 0 h j)) +
              kk a0 a1 (ix4 b 1 h i) * vv a0 (ix4 b 1 h j)) +
          kk a0 a1 (ix4 b 2 h i) * vv a0 (ix4 b 2 h j)) +
      kk a0 a1 (ix4 b 3 h i) * vv a0 (ix4 b 3 h j) := by
  unfold result
  generalize ff a0 a1 = F
  generalize kk a0 a1 = K
  generalize vv a0 = V
  pointwise []

/-- The chunk's closed form over eight rows, the last four empty, is the state after four tokens. -/
theorem core (a0 : FVec Ideal S32x8x2048 .f32) (a1 : FVec Ideal S512 .f32) (a3 : FVec Ideal S32x4x128x128 .f32)
    (d0 : ∀ (b : Fin 32) (t : Fin 8) (q : Fin 1024), ∃ r : ℝ, a0 (ix3 b t ⟨512 + q.val, by omega⟩) = (r : EReal))
    (d1 : ∀ i : Fin 512, ∃ r : ℝ, r ≤ 1 ∧ a1 (ix1 i) = (r : EReal))
    (d3 : ∀ (b : Fin 32) (e : Fin 4) (k v : Fin 128), ∃ r : ℝ, a3 (ix4 b e k v) = (r : EReal))
    (b : Fin 32) (C K : Fin 8 → Fin 512 → EReal)
    (hC : ∀ (x : Fin 8) (q : Fin 512), C x q = ∑ y : Fin 8, if y ≤ x then (if y.val < 4 then lg (a0 (ix3 b y ⟨512 + q.val, by omega⟩)) (a1 (ix1 q)) else 0) else 0)
    (hK : ∀ (x : Fin 8) (q : Fin 512), K x q = if x.val < 4 then key (a0 (ix3 b x ⟨512 + q.val, by omega⟩)) (a1 (ix1 q)) else 0)
    (h : Fin 4) (i j : Fin 128) :
    a3 (ix4 b h i j) * Ideal.exp (C 7 ⟨h.val * 128 + i.val, by omega⟩)
      + ∑ x : Fin 8, a0 (ix3 b x ⟨1024 + (h.val * 128 + j.val), by omega⟩)
          * (K x ⟨h.val * 128 + i.val, by omega⟩ * Ideal.exp (C 7 ⟨h.val * 128 + i.val, by omega⟩ - C x ⟨h.val * 128 + i.val, by omega⟩))
      = result a0 a1 a3 (ix4 b h i j) := by
  obtain ⟨l, hl, el⟩ := d1 ⟨h.val * 128 + i.val, by omega⟩
  have ez : ∀ y : Fin 8, ∃ r : ℝ, a0 (ix3 b y ⟨512 + (h.val * 128 + i.val), by omega⟩) = (r : EReal) := fun y => d0 b y ⟨h.val * 128 + i.val, by omega⟩
  have ev : ∀ y : Fin 8, ∃ r : ℝ, a0 (ix3 b y ⟨1024 + (h.val * 128 + j.val), by omega⟩) = (r : EReal) := fun y => by
    obtain ⟨r, hr⟩ := d0 b y ⟨512 + (h.val * 128 + j.val), by omega⟩
    refine ⟨r, Eq.trans (congrArg (fun q => a0 (ix3 b y q)) (Fin.ext ?_)) hr⟩
    show 1024 + _ = 512 + (512 + _); omega
  rw [four_steps (fun y : Fin 8 => if y.val < 4 then lg (a0 (ix3 b y ⟨512 + (h.val * 128 + i.val), by omega⟩)) (a1 (ix1 ⟨h.val * 128 + i.val, by omega⟩)) else 0)
    (fun x => K x ⟨h.val * 128 + i.val, by omega⟩) (fun x => a0 (ix3 b x ⟨1024 + (h.val * 128 + j.val), by omega⟩)) (a3 (ix4 b h i j))
    (fun x => C x ⟨h.val * 128 + i.val, by omega⟩) (fun x => hC x _)
    (fun y hy => by
      obtain ⟨z, hz⟩ := ez y
      simp only [if_pos hy, hz, el]; exact lg_coe z l hl)
    (fun y hy => by simp only [if_neg hy])
    (fun y hy => by
      obtain ⟨z, hz⟩ := ez y
      simp only [hK, if_pos hy, hz, el]; exact key_coe z l)
    (fun y hy => by simp only [hK, if_neg hy])
    (fun y _ => ev y) (d3 b h i j)]
  rw [result_at]
  simp only [ff_at, kk_at, vv_at, hK]
  rfl

end Cert.HgrnSRefIdeal.Val

namespace Cert.HgrnSIdeal.Val

open Cert.HgrnSIdeal Cert.HgrnSIdeal.Gen Cert.HgrnSMath
open Cert.HgrnSRefIdeal.Val (result core)

variable (m : (ℓ : Loc nD τ sig) → Buf (Elt Ideal) ℓ)

/-- Every window's block index at every grid point. -/
theorem idx_val : ∀ t : Fin cfg0.N, win0_0.index t = ![t.val, 0, 0]
    ∧ win0_1.index t = ![0, 0]
    ∧ win0_3.index t = ![t.val, 0, 0, 0]
    ∧ win0_5.index t = ![t.val, 0, 0, 0] :=
  (by decide +kernel : ∀ t : Fin grid0.N, _)

/-- The grid's second axis has one point. -/
theorem coord1 : ∀ t : Fin cfg0.N, BitVec.ofNat 32 (grid0.coords t 1).val = BitVec.ofNat 32 0 :=
  (by decide +kernel : ∀ t : Fin grid0.N, _)

/-- An offset the body computes. -/
theorem off5 : k0_off5 = ![0, 0, 1024] := by decide
/-- An offset the body computes. -/
theorem off6 : k0_off6 = ![0, 0, 1152] := by decide
/-- An offset the body computes. -/
theorem off7 : k0_off7 = ![0, 0, 1280] := by decide
/-- An offset the body computes. -/
theorem off8 : k0_off8 = ![0, 0, 1408] := by decide
/-- An offset the body computes. -/
theorem off13 : k0_off13 = ![0, 0] := by decide
/-- An offset the body computes. -/
theorem off14 : k0_off14 = ![0, 128] := by decide
/-- An offset the body computes. -/
theorem off15 : k0_off15 = ![0, 256] := by decide
/-- An offset the body computes. -/
theorem off16 : k0_off16 = ![0, 384] := by decide

/-- Rows below the fourth hold tokens. -/
theorem live_at (i : Fin 8) (j : Fin 512) : k0_pay14 (BitVec.ofNat 32 0) (ix2 i j) = if i.val < 4 then 1#1 else 0#1 := by
  pointwise [k0_pay14]
  revert i; decide

/-- The mask of the running sum is lower triangular. -/
theorem tri_at : ∀ i x : Fin 8, (IntOp.andi
              (IntOp.cmpi CmpIPredicate.eq (k0_pay17 (ix2 i x))
                (Scalar.select
                  (IntOp.andi
                    (IntOp.cmpi CmpIPredicate.ne
                      (IntOp.subi (k0_pay19 (ix2 i x)) (BitVec.setWidth 32 (k0_pay20 (ix2 i x))))
                      (Scalar.subi (Scalar.extui (Scalar.cmpi CmpIPredicate.sgt 8#32 0#32))
                        (Scalar.extui (Scalar.cmpi CmpIPredicate.slt 8#32 0#32))))
                    (IntOp.cmpi CmpIPredicate.ne (IntOp.remsi ArithUnit.vector (BitVec.ofNat 32 ↑x) 8#32) 0#32))
                  (IntOp.subi (k0_pay18 (ix2 i x)) 1#32) (k0_pay18 (ix2 i x))))
              (IntOp.cmpi CmpIPredicate.sle (BitVec.ofNat 32 ↑x) (BitVec.ofNat 32 ↑i))) = if x ≤ i then 1#1 else 0#1 := by
  decide +kernel

/-- A choice by a decided bit. -/
theorem select_ite {α : Type} (p : Prop) [Decidable p] (a b : α) : Scalar.select (if p then 1#1 else 0#1) a b = if p then a else b := by
  by_cases h : p <;> simp [h, Scalar.select]

/-- The masked keys of a block. -/
theorem kh_at (z : FVec Ideal S1x8x512 .f32) (l : FVec Ideal S1x512 .f32) (i : Fin 8) (j : Fin 512) :
    k0_pay22 (F := Ideal) (k0_pay16 (BitVec.ofNat 32 0) (k0_pay12 l) (k0_pay13 z)) (ix2 i j)
      = if i.val < 4 then key (z (ix3 0 i j)) (l (ix2 0 j)) else 0 := by
  pointwise [k0_pay22, k0_pay16, k0_pay12, k0_pay13, k0_pay9, k0_pay10]
  have e := live_at i j
  rw [show BitVec.ofNat 32 0 = 0#32 from rfl] at e
  rw [e, select_ite, zero_sub]; rfl

/-- The masked gate logarithms of a block. -/
theorem lf_at (z : FVec Ideal S1x8x512 .f32) (l : FVec Ideal S1x512 .f32) (i : Fin 8) (j : Fin 512) :
    k0_pay15 (F := Ideal) (BitVec.ofNat 32 0) (k0_pay11 z l) (ix2 i j)
      = if i.val < 4 then lg (z (ix3 0 i j)) (l (ix2 0 j)) else 0 := by
  pointwise [k0_pay15, k0_pay11, k0_pay9, k0_pay10]
  have e := live_at i j
  rw [show BitVec.ofNat 32 0 = 0#32 from rfl] at e
  rw [e, select_ite]; simp only [zero_sub]; rfl

/-- The running sum of real rows: the two remainders of the split vanish. -/
theorem cum_at (L : FVec Ideal S8x512 .f32) (i : Fin 8) (j : Fin 512) (hL : ∀ x : Fin 8, ∃ r : ℝ, L (ix2 x j) = (r : EReal)) :
    k0_pay21 L (iota .tc S8x8 32 [0] iota_S8x8_d0_w32) (iota .tc S8x8 32 [1] iota_S8x8_d1_w32) k0_pay17 8#32 k0_pay18 k0_pay19 k0_pay20 (ix2 i j)
      = ∑ x : Fin 8, if x ≤ i then L (ix2 x j) else 0 := by
  pointwise [k0_pay21]
  simp only [tri_at, select_ite]
  have e0 : ∀ x : Fin 8, L (ix2 x j) - L (ix2 x j) = 0 := fun x => by
    obtain ⟨r, hr⟩ := hL x
    rw [hr, ← EReal.coe_sub, sub_self]; rfl
  simp only [e0, sub_zero, ite_self, Finset.sum_const_zero, add_zero]

/-- The new state the body stores for the first head. -/
theorem piece0 (W : FVec Ideal S1x8x128 .f32) (B K : FVec Ideal S8x128 .f32) (S : FVec Ideal S1x1x128x128 .f32) (a b : Fin 1) (i j : Fin 128) :
    k0_pay1 (F := Ideal) (k0_pay98 (F := Ideal) (k0_pay92 (F := Ideal) (k0_pay35 (F := Ideal) W) B K (k0_pay83 (F := Ideal) (k0_pay5 (F := Ideal) S)))) (ix4 a b i j)
      = S (ix4 0 0 i j) * Ideal.exp (B (ix2 7 i)) + ∑ x : Fin 8, W (ix3 0 x j) * (K (ix2 x i) * Ideal.exp (B (ix2 7 i) - B (ix2 x i))) := by
  pointwise [k0_pay1, k0_pay98, k0_pay92, k0_pay35, k0_pay83, k0_pay5]

/-- The new state the body stores for the second head. -/
theorem piece1 (W : FVec Ideal S1x8x128 .f32) (B K : FVec Ideal S8x128 .f32) (S : FVec Ideal S1x1x128x128 .f32) (a b : Fin 1) (i j : Fin 128) :
    k0_pay2 (F := Ideal) (k0_pay101 (F := Ideal) (k0_pay95 (F := Ideal) (k0_pay36 (F := Ideal) W) K (k0_pay93 (F := Ideal) B (k0_pay84 (F := Ideal) (k0_pay6 (F := Ideal) S))) (k0_pay94 (F := Ideal) B))) (ix4 a b i j)
      = S (ix4 0 0 i j) * Ideal.exp (B (ix2 7 i)) + ∑ x : Fin 8, W (ix3 0 x j) * (K (ix2 x i) * Ideal.exp (B (ix2 7 i) - B (ix2 x i))) := by
  pointwise [k0_pay2, k0_pay101, k0_pay95, k0_pay36, k0_pay93, k0_pay84, k0_pay6, k0_pay94]

/-- The new state the body stores for the third head. -/
theorem piece2 (W : FVec Ideal S1x8x128 .f32) (B K : FVec Ideal S8x128 .f32) (S : FVec Ideal S1x1x128x128 .f32) (a b : Fin 1) (i j : Fin 128) :
    k0_pay3 (F := Ideal) (k0_pay103 (F := Ideal) (k0_pay96 (F := Ideal) (k0_pay37 (F := Ideal) W) B K (k0_pay85 (F := Ideal) (k0_pay7 (F := Ideal) S)))) (ix4 a b i j)
      = S (ix4 0 0 i j) * Ideal.exp (B (ix2 7 i)) + ∑ x : Fin 8, W (ix3 0 x j) * (K (ix2 x i) * Ideal.exp (B (ix2 7 i) - B (ix2 x i))) := by
  pointwise [k0_pay3, k0_pay103, k0_pay96, k0_pay37, k0_pay85, k0_pay7]

/-- The new state the body stores for the fourth head. -/
theorem piece3 (W : FVec Ideal S1x8x128 .f32) (B K : FVec Ideal S8x128 .f32) (S : FVec Ideal S1x1x128x128 .f32) (a b : Fin 1) (i j : Fin 128) :
    k0_pay4 (F := Ideal) (k0_pay106 (F := Ideal) (k0_pay97 (F := Ideal) (k0_pay38 (F := Ideal) W) B K (k0_pay86 (F := Ideal) (k0_pay8 (F := Ideal) S)))) (ix4 a b i j)
      = S (ix4 0 0 i j) * Ideal.exp (B (ix2 7 i)) + ∑ x : Fin 8, W (ix3 0 x j) * (K (ix2 x i) * Ideal.exp (B (ix2 7 i) - B (ix2 x i))) := by
  pointwise [k0_pay4, k0_pay106, k0_pay97, k0_pay38, k0_pay86, k0_pay8]

/-- A head's columns of an array of all four. -/
theorem cols0 (X : FVec Ideal S8x512 .f32) (x : Fin 8) (i : Fin 128) :
    View.ld (Val := Elt Ideal) (e' := .f32) X (Rect.unit k0_off13 ![8, 128] k0_off13_inb : Rect S8x512) (ix2 x i) = X (ix2 x ⟨(0 : Fin 4).val * 128 + i.val, by omega⟩) := by
  rw [View.ld_apply]
  refine congrArg X (funext fun a => Fin.ext ?_)
  fin_cases a <;> simp [off13, Rect.unit, ix2]

/-- A head's columns of an array of all four. -/
theorem cols1 (X : FVec Ideal S8x512 .f32) (x : Fin 8) (i : Fin 128) :
    View.ld (Val := Elt Ideal) (e' := .f32) X (Rect.unit k0_off14 ![8, 128] k0_off14_inb : Rect S8x512) (ix2 x i) = X (ix2 x ⟨(1 : Fin 4).val * 128 + i.val, by omega⟩) := by
  rw [View.ld_apply]
  refine congrArg X (funext fun a => Fin.ext ?_)
  fin_cases a <;> simp [off14, Rect.unit, ix2]

/-- A head's columns of an array of all four. -/
theorem cols2 (X : FVec Ideal S8x512 .f32) (x : Fin 8) (i : Fin 128) :
    View.ld (Val := Elt Ideal) (e' := .f32) X (Rect.unit k0_off15 ![8, 128] k0_off15_inb : Rect S8x512) (ix2 x i) = X (ix2 x ⟨(2 : Fin 4).val * 128 + i.val, by omega⟩) := by
  rw [View.ld_apply]
  refine congrArg X (funext fun a => Fin.ext ?_)
  fin_cases a <;> simp [off15, Rect.unit, ix2]

/-- A head's columns of an array of all four. -/
theorem cols3 (X : FVec Ideal S8x512 .f32) (x : Fin 8) (i : Fin 128) :
    View.ld (Val := Elt Ideal) (e' := .f32) X (Rect.unit k0_off16 ![8, 128] k0_off16_inb : Rect S8x512) (ix2 x i) = X (ix2 x ⟨(3 : Fin 4).val * 128 + i.val, by omega⟩) := by
  rw [View.ld_apply]
  refine congrArg X (funext fun a => Fin.ext ?_)
  fin_cases a <;> simp [off16, Rect.unit, ix2]

/-- A block's gate pre-activations. -/
theorem z_at (c : Dev nD) (t : Fin cfg0.N) (x : Fin 8) (q : Fin 512) :
    View.ld (iblk m c 0 t) (Rect.unit ![0, 0, 512] ![1, 8, 512] inb_S1x8x2048_S1x8x512_0_0_512) (ix3 0 x q)
      = m ((c : Thread nD τ).loc main_arg0) (ix3 (⟨t.val, t.isLt⟩ : Fin 32) x ⟨512 + q.val, by omega⟩) := by
  blk_point [iblk, V, idx_val t]

/-- The bounds' one row. -/
theorem l_at (c : Dev nD) (t : Fin cfg0.N) (q : Fin 512) :
    iblk m c 1 t (ix2 0 q) = m ((c : Thread nD τ).loc main_arg1) (ix1 q) := by
  blk_point [iblk, V, idx_val t]

set_option maxHeartbeats 3200000 in
/-- The four heads' states of a block at index `y`: the reference at the array index `y` sits at. -/
theorem point (c : Dev nD) (t : Fin cfg0.N) (y)
    (d0 : ∀ (b : Fin 32) (t : Fin 8) (q : Fin 1024), ∃ r : ℝ, m ((c : Thread nD τ).loc main_arg0) (ix3 b t ⟨512 + q.val, by omega⟩) = (r : EReal))
    (d1 : ∀ i : Fin 512, ∃ r : ℝ, r ≤ 1 ∧ m ((c : Thread nD τ).loc main_arg1) (ix1 i) = (r : EReal))
    (d3 : ∀ (b : Fin 32) (e : Fin 4) (k v : Fin 128), ∃ r : ℝ, m ((c : Thread nD τ).loc main_arg3) (ix4 b e k v) = (r : EReal)) :
    (dats m 0 c).after 5 t y
      = result (m ((c : Thread nD τ).loc main_arg0)) (m ((c : Thread nD τ).loc main_arg1)) (m ((c : Thread nD τ).loc main_arg3)) (((cfg0.win 5).blk t).view.emb y) := by
  rw [after0_5]; unfold outsAt0
  frame_open
  simp (disch := decide) only [↓ View.readCov_skip, ↓ View.readCov_cons_toLoadRect, ↓ View.readCov_fill]
  frame_out
  simp only [coord1 t]
  have eC : ∀ (x : Fin 8) (q : Fin 512), k0_pay21 (F := Ideal) (k0_pay15 (BitVec.ofNat 32 0) (k0_pay11 (View.ld (iblk m c 0 t) (Rect.unit ![0, 0, 512] ![1, 8, 512] inb_S1x8x2048_S1x8x512_0_0_512)) (iblk m c 1 t))) (iota .tc S8x8 32 [0] iota_S8x8_d0_w32) (iota .tc S8x8 32 [1] iota_S8x8_d1_w32) k0_pay17 8#32 k0_pay18 k0_pay19 k0_pay20 (ix2 x q)
      = ∑ y : Fin 8, if y ≤ x then (if y.val < 4 then lg (m ((c : Thread nD τ).loc main_arg0) (ix3 (⟨t.val, t.isLt⟩ : Fin 32) y ⟨512 + q.val, by omega⟩)) (m ((c : Thread nD τ).loc main_arg1) (ix1 q)) else 0) else 0 := by
    intro x q
    obtain ⟨l, n, el⟩ := d1 q
    rw [cum_at]
    · simp only [lf_at, z_at, l_at]
    · intro y
      obtain ⟨z, ez⟩ := d0 (⟨t.val, t.isLt⟩ : Fin 32) y ⟨q.val, by omega⟩
      simp only [lf_at, z_at, l_at]
      split
      · rw [ez, el]; exact lg_coe z l n
      · exact ⟨0, rfl⟩
  have eK : ∀ (x : Fin 8) (q : Fin 512), k0_pay22 (F := Ideal) (k0_pay16 (BitVec.ofNat 32 0) (k0_pay12 (iblk m c 1 t)) (k0_pay13 (View.ld (iblk m c 0 t) (Rect.unit ![0, 0, 512] ![1, 8, 512] inb_S1x8x2048_S1x8x512_0_0_512)))) (ix2 x q)
      = if x.val < 4 then key (m ((c : Thread nD τ).loc main_arg0) (ix3 (⟨t.val, t.isLt⟩ : Fin 32) x ⟨512 + q.val, by omega⟩)) (m ((c : Thread nD τ).loc main_arg1) (ix1 q)) else 0 := by
    intro x q
    rw [kh_at, z_at, l_at]
  generalize k0_pay21 (F := Ideal) _ _ _ _ _ _ _ _ = C at eC ⊢
  generalize k0_pay22 (F := Ideal) _ = K at eK ⊢
  have step := core _ _ _ d0 d1 d3 (⟨t.val, t.isLt⟩ : Fin 32) (fun x q => C (ix2 x q)) (fun x q => K (ix2 x q)) eC eK
  generalize result _ _ _ = R at step ⊢
  canon_tiles x h
  · idx_vars x
    refine (piece3 _ _ _ _ _ _ _ _).trans (Eq.trans ?_ ((step 3 x2 x3).trans ?_))
    · refine congrArg₂ (· + ·) (congrArg₂ (· * ·) ?_ (congrArg Ideal.exp (cols3 C 7 x2))) (Finset.sum_congr rfl fun u _ =>
        congrArg₂ (· * ·) ?_ (congrArg₂ (· * ·) (cols3 K u x2) (congrArg Ideal.exp (congrArg₂ (· - ·) (cols3 C 7 x2) (cols3 C u x2)))))
      all_goals blk_point [iblk, V, idx_val t, off8]
    · blk_point [iblk, V, idx_val t]
  · idx_vars x
    refine (piece2 _ _ _ _ _ _ _ _).trans (Eq.trans ?_ ((step 2 x2 x3).trans ?_))
    · refine congrArg₂ (· + ·) (congrArg₂ (· * ·) ?_ (congrArg Ideal.exp (cols2 C 7 x2))) (Finset.sum_congr rfl fun u _ =>
        congrArg₂ (· * ·) ?_ (congrArg₂ (· * ·) (cols2 K u x2) (congrArg Ideal.exp (congrArg₂ (· - ·) (cols2 C 7 x2) (cols2 C u x2)))))
      all_goals blk_point [iblk, V, idx_val t, off7]
    · blk_point [iblk, V, idx_val t]
  · idx_vars x
    refine (piece1 _ _ _ _ _ _ _ _).trans (Eq.trans ?_ ((step 1 x2 x3).trans ?_))
    · refine congrArg₂ (· + ·) (congrArg₂ (· * ·) ?_ (congrArg Ideal.exp (cols1 C 7 x2))) (Finset.sum_congr rfl fun u _ =>
        congrArg₂ (· * ·) ?_ (congrArg₂ (· * ·) (cols1 K u x2) (congrArg Ideal.exp (congrArg₂ (· - ·) (cols1 C 7 x2) (cols1 C u x2)))))
      all_goals blk_point [iblk, V, idx_val t, off6]
    · blk_point [iblk, V, idx_val t]
  · idx_vars x
    refine (piece0 _ _ _ _ _ _ _ _).trans (Eq.trans ?_ ((step 0 x2 x3).trans ?_))
    · refine congrArg₂ (· + ·) (congrArg₂ (· * ·) ?_ (congrArg Ideal.exp (cols0 C 7 x2))) (Finset.sum_congr rfl fun u _ =>
        congrArg₂ (· * ·) ?_ (congrArg₂ (· * ·) (cols0 K u x2) (congrArg Ideal.exp (congrArg₂ (· - ·) (cols0 C 7 x2) (cols0 C u x2)))))
      all_goals blk_point [iblk, V, idx_val t, off5]
    · blk_point [iblk, V, idx_val t]

/-- The state array after the run. -/
theorem final (c : Dev nD) (d : Cert.Pre_hgrn_domain.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 5 (cfgs 0).N = result (m ((c : Thread nD τ).loc main_arg0)) (m ((c : Thread nD τ).loc main_arg1)) (m ((c : Thread nD τ).loc main_arg3)) := by
  obtain ⟨d0, d1, d3⟩ := Cert.Pre_hgrn_domain.Val.parts _ _ _ _ d
  refine (dats m 0 c).arrAt_eq_of_covers 5 _ (by decide +kernel) fun t hf y => ?_
  blk_simp; rw [after0_5]; frame_out
  have := point m c t y d0 d1 d3
  rw [after0_5] at this
  exact this

end Cert.HgrnSIdeal.Val

end
-- ==== Proof.MergeSValue.lean ====
/- The merge of the three mixers: the kernel stores the gated sum, projected, normalised and added back, for the sample. -/
module

public import proofs.«01_k».proof.Proof.Gen.MergeSIdeal.Frame
public import proofs.«01_k».proof.Proof.Gen.MergeSRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MergeSRefIdeal.Val

open Cert.MergeSRefIdeal Cert.MergeSRefIdeal.Gen

def part1 (a4 : FVec Ideal S256x3072 .f32) :=
  Host.divf (broadcastInDim S256x3072 ![] bcast_S_S256x3072 (constant S_ .f32 0x3F800000#32)) (addf (broadcastInDim S256x3072 ![] bcast_S_S256x3072 (constant S_ .f32 0x3F800000#32)) (Host.exp (Host.negf a4)))

def part2 (a4 : FVec Ideal S256x3072 .f32) :=
  shapeCast _ (extractStridedSlice S256x1x1024 ![0, 0, 0] (shapeCast _ (part1 a4) shapeCasts_S256x3072_S256x3x1024) slices_S256x3x1024_S256x1x1024_0_0_0) shapeCasts_S256x1x1024_S256x1024

def part3 (a4 : FVec Ideal S256x3072 .f32) :=
  shapeCast _ (extractStridedSlice S256x1x1024 ![0, 2, 0] (shapeCast _ (part1 a4) shapeCasts_S256x3072_S256x3x1024) slices_S256x3x1024_S256x1x1024_0_2_0) shapeCasts_S256x1x1024_S256x1024

def part4 (a4 : FVec Ideal S256x3072 .f32) :=
  shapeCast _ (extractStridedSlice S256x1x1024 ![0, 1, 0] (shapeCast _ (part1 a4) shapeCasts_S256x3072_S256x3x1024) slices_S256x3x1024_S256x1x1024_0_1_0) shapeCasts_S256x1x1024_S256x1024

def part5 (a1 : FVec Ideal S256x512 .f32) (a2 : FVec Ideal S256x512 .f32) (a4 : FVec Ideal S256x3072 .f32) (a5 : FVec Ideal S512x1024 .f32) (a6 : FVec Ideal S512x1024 .f32) :=
  addf (mulf (part2 a4) (Host.dotGeneral dot_S256x512_S512x1024_S256x1024_1_0_0_1_n_n none a1 a5)) (mulf (part4 a4) (Host.dotGeneral dot_S256x512_S512x1024_S256x1024_1_0_0_1_n_n none a2 a6))

def part6 (a1 : FVec Ideal S256x512 .f32) (a2 : FVec Ideal S256x512 .f32) (a3 : FVec Ideal S256x512 .f32) (a4 : FVec Ideal S256x3072 .f32) (a5 : FVec Ideal S512x1024 .f32) (a6 : FVec Ideal S512x1024 .f32) (a7 : FVec Ideal S512x1024 .f32) (a8 : FVec Ideal S1024x1024 .f32) :=
  Host.dotGeneral dot_S256x1024_S1024x1024_S256x1024_1_0_0_1_n_n none (addf (part5 a1 a2 a4 a5 a6) (mulf (part3 a4) (Host.dotGeneral dot_S256x512_S512x1024_S256x1024_1_0_0_1_n_n none a3 a7))) a8

def result (a0 : FVec Ideal S256x1024 .f32) (a1 : FVec Ideal S256x512 .f32) (a2 : FVec Ideal S256x512 .f32) (a3 : FVec Ideal S256x512 .f32) (a4 : FVec Ideal S256x3072 .f32) (a5 : FVec Ideal S512x1024 .f32) (a6 : FVec Ideal S512x1024 .f32) (a7 : FVec Ideal S512x1024 .f32) (a8 : FVec Ideal S1024x1024 .f32) (a9 : FVec Ideal S1024 .f32) : FVec Ideal S256x1024 .f32 :=
  addf a0 (mulf (mulf (part6 a1 a2 a3 a4 a5 a6 a7 a8) (broadcastInDim S256x1024 ![0, 1] bcast_S256x1_S256x1024_0_1 (Host.rsqrt (addf (Host.divf (broadcastInDim S256x1 ![0] bcast_S256_S256x1_0 (Host.reduceAdd (mulf (part6 a1 a2 a3 a4 a5 a6 a7 a8) (part6 a1 a2 a3 a4 a5 a6 a7 a8)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a9)))

end Cert.MergeSRefIdeal.Val

namespace Cert.MergeSIdeal.Val

open Cert.MergeSIdeal Cert.MergeSIdeal.Gen
open Cert.MergeSRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0] :=
  (by decide +kernel : ∀ t : Fin grid0.N, _)

set_option maxHeartbeats 1600000 in
/-- The projection of the gated sum, at row `r` of block `t`: the reference's at that row of the array. -/
theorem inner (c : Dev nD) (t : Fin cfg0.N) (r : Fin 256) (j : Fin 1024) :
    k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t) (ix2 r j)
      = part6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 256 + r.val, by have := t.isLt; have : cfg0.N = 1 := rfl; omega⟩ j) := by
  pointwise [k0_pay2, part1, part2, part3, part4, part5, part6, Ideal.logistic]
  blk_point [iblk, V, idx_val t]

/-- The end of the block over the projection it was handed. -/
theorem point (c : Dev nD) (t : Fin cfg0.N) (y : S256x1024.Idx) :
    k0_pay1 (k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t)) (iblk m
      c 0 t) (iblk m c 9 t) y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb y) := by
  have hN : cfg0.N = 1 := rfl
  idx_vars y
  have hy : (((cfg0.win 10).blk t).view.emb (ix2 y0 y1)) = ix2 ⟨t.val * 256 + y0.val, by have := t.isLt; omega⟩ y1 := by
    blk_ext [idx_val t]
  have hb := inner m c t y0
  rw [hy]
  generalize (k0_pay2 (iblk m c 1 t) (iblk m c 5 t) (View.ld (iblk m c 4 t) r0_2) (iblk m c 2 t) (iblk m c 6 t)
      (View.ld (iblk m c 4 t) r0_3) (iblk m c 3 t) (iblk m c 7 t) (View.ld (iblk m c 4 t) r0_4) (iblk m c 8 t)) = D at hb ⊢
  pointwise [k0_pay1, result]
  simp only [hb]
  blk_point [iblk, V, idx_val t]

/-- The result array after the run. -/
theorem final (c : Dev nD) : (dats m 0 c).arrAt 10 (cfgs 0).N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp; rw [after0_10]; frame_out
  exact point m c t y

end Cert.MergeSIdeal.Val

end
-- ==== Proof.CrossQSValue.lean ====
/- The query projection of the cross attention: the kernel stores the normalised rows times the weights, for the sample. -/
module

public import proofs.«01_k».proof.Proof.Gen.CrossQSIdeal.Frame
public import proofs.«01_k».proof.Proof.Gen.CrossQSRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossQSRefIdeal.Val

open Cert.CrossQSRefIdeal Cert.CrossQSRefIdeal.Gen

def result (a0 : FVec Ideal S256x1024 .f32) (a1 : FVec Ideal S1024 .f32) (a2 : FVec Ideal S1024x1024 .f32) : FVec Ideal S256x1024 .f32 :=
  Host.dotGeneral dot_S256x1024_S1024x1024_S256x1024_1_0_0_1_n_n none (mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a1))) a2

end Cert.CrossQSRefIdeal.Val

namespace Cert.CrossQSIdeal.Val

open Cert.CrossQSIdeal Cert.CrossQSIdeal.Gen
open Cert.CrossQSRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

set_option maxHeartbeats 1600000 in
/-- What the body stores at block index `y` of point `t` is the reference at the array index `y` sits at. -/
theorem point (c : Dev nD) (t : Fin cfg0.N) (y) :
    out0_3 (iblk m c 0 t) (iblk m c 1 t) (iblk m c 2 t) y
      = result (m ((c : Thread nD τ).loc main_arg0)) (m ((c : Thread nD τ).loc main_arg1)) (m ((c : Thread nD τ).loc
        main_arg2)) (((cfg0.win 3).blk t).view.emb y) := by
  canon_tiles x h; all_goals (open_payloads; pointwise [result]; blk_point [iblk, V, idx_val t])

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.CrossQSIdeal.Val

end
-- ==== Proof.XattnSValue.lean ====
/- The attention over the memory, one head after the other, for the sample. -/
module

public import proofs.«01_k».proof.Proof.Gen.XattnSIdeal.Frame
public import proofs.«01_k».proof.Proof.Gen.XattnSRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.XattnSRefIdeal.Val

open Cert.XattnSRefIdeal Cert.XattnSRefIdeal.Gen

def part1 (a0 : FVec Ideal S32x8x1024 .f32) (a1 a2 : FVec Ideal S32x256x1024 .f32) :=
  Host.dotGeneral dot_S32x8x4x256_S32x256x4x256_S32x4x8x256_3_3_1_1_02_02 none (shapeCast _ a0 shapeCasts_S32x8x1024_S32x8x4x256) (shapeCast _ a1 shapeCasts_S32x256x1024_S32x256x4x256)

def part2 (a0 : FVec Ideal S32x8x1024 .f32) (a1 a2 : FVec Ideal S32x256x1024 .f32) :=
  Host.reduce FloatOps.maximumf (mulf (part1 a0 a1 a2) (broadcastInDim S32x4x8x256 ![] bcast_S_S32x4x8x256 (constant S_ .f32 0x3D800000#32))) (constant S_ .f32 0xFF800000#32) reducesTo_S32x4x8x256_S32x4x8_d3 h_S_

def part3 (a0 : FVec Ideal S32x8x1024 .f32) (a1 a2 : FVec Ideal S32x256x1024 .f32) :=
  broadcastInDim S32x4x8x1 ![0, 1, 2] bcast_S32x4x8_S32x4x8x1_0_1_2 (maximumf (broadcastInDim S32x4x8 ![] bcast_S_S32x4x8 (constant S_ .f32 0xFF800000#32)) (part2 a0 a1 a2))

def part4 (a0 : FVec Ideal S32x8x1024 .f32) (a1 a2 : FVec Ideal S32x256x1024 .f32) :=
  subf (mulf (part1 a0 a1 a2) (broadcastInDim S32x4x8x256 ![] bcast_S_S32x4x8x256 (constant S_ .f32 0x3D800000#32))) (broadcastInDim S32x4x8x256 ![0, 1, 2, 3] bcast_S32x4x8x1_S32x4x8x256_0_1_2_3 (part3 a0 a1 a2))

def result (a0 : FVec Ideal S32x8x1024 .f32) (a1 a2 : FVec Ideal S32x256x1024 .f32) : FVec Ideal S32x8x1024 .f32 :=
  shapeCast _ (transpose S32x8x4x256 [0, 3, 1, 2] (Host.dotGeneral dot_S32x256x4x256_S32x4x8x256_S32x4x256x8_1_3_3_2_02_01 none (shapeCast _ a2 shapeCasts_S32x256x1024_S32x256x4x256) (Host.divf (Host.exp (part4 a0 a1 a2)) (broadcastInDim S32x4x8x256 ![0, 1, 2, 3] bcast_S32x4x8x1_S32x4x8x256_0_1_2_3 (broadcastInDim S32x4x8x1 ![0, 1, 2] bcast_S32x4x8_S32x4x8x1_0_1_2 (Host.reduceAdd (Host.exp (part4 a0 a1 a2)) (constant S_ .f32 0x00000000#32) reducesTo_S32x4x8x256_S32x4x8_d3 h_S_))))) transposes_S32x4x256x8_S32x8x4x256_0_3_1_2) shapeCasts_S32x8x4x256_S32x8x1024

/-- A scaled score: query row `R` against memory row `j`, in head `h` of batch `B`. -/
def score (a0 : FVec Ideal S32x8x1024 .f32) (a1 a2 : FVec Ideal S32x256x1024 .f32) (B : Fin 32) (h : Fin 4) (R : Fin 8) (j : Fin 256) : EReal :=
  (∑ d : Fin 256, a0 (ix3 B R ⟨h.val * 256 + d.val, by omega⟩) * a1 (ix3 B j ⟨h.val * 256 + d.val, by omega⟩))
    * Ideal.ofBits .f32 0x3D800000#32

/-- The largest score of a query row, from minus infinity on. -/
def top (a0 : FVec Ideal S32x8x1024 .f32) (a1 a2 : FVec Ideal S32x256x1024 .f32) (B : Fin 32) (h : Fin 4) (R : Fin 8) : EReal :=
  (Finset.univ : Finset (Fin 256)).fold max (Ideal.ofBits .f32 0xFF800000#32) (fun j => score a0 a1 a2 B h R j)

/-- A weight before it is divided. -/
def weight (a0 : FVec Ideal S32x8x1024 .f32) (a1 a2 : FVec Ideal S32x256x1024 .f32) (B : Fin 32) (h : Fin 4) (R : Fin 8) (j : Fin 256) : EReal :=
  Ideal.exp (score a0 a1 a2 B h R j - top a0 a1 a2 B h R)

/-- An entry of the attention's output. -/
def entry (a0 : FVec Ideal S32x8x1024 .f32) (a1 a2 : FVec Ideal S32x256x1024 .f32) (B : Fin 32) (h : Fin 4) (R : Fin 8) (d : Fin 256) : EReal :=
  ∑ j : Fin 256, Ideal.div (weight a0 a1 a2 B h R j) (∑ j' : Fin 256, weight a0 a1 a2 B h R j')
    * a2 (ix3 B j ⟨h.val * 256 + d.val, by omega⟩)

/-- The reference's scores. -/
theorem part1_at (a0 : FVec Ideal S32x8x1024 .f32) (a1 a2 : FVec Ideal S32x256x1024 .f32) (B : Fin 32) (h : Fin 4) (R : Fin 8) (j : Fin 256) :
    part1 a0 a1 a2 (ix4 B h R j) * Ideal.ofBits .f32 0x3D800000#32 = score a0 a1 a2 B h R j := by
  pointwise [part1, score]

/-- The reference's largest score. -/
theorem part2_at (a0 : FVec Ideal S32x8x1024 .f32) (a1 a2 : FVec Ideal S32x256x1024 .f32) (B : Fin 32) (h : Fin 4) (R : Fin 8) :
    part2 a0 a1 a2 (ix3 B h R) = top a0 a1 a2 B h R := by
  pointwise [part2]
  simp only [part1_at, top]

/-- A fold of the maximum is at least its start. -/
theorem max_fold (b : EReal) (f : Fin 256 → EReal) :
    max b ((Finset.univ : Finset (Fin 256)).fold max b f) = (Finset.univ : Finset (Fin 256)).fold max b f :=
  max_eq_right ((Finset.le_fold_max b).2 (Or.inl le_rfl))

/-- The comparison with minus infinity, over any array of row maxima. -/
theorem bar_at (P : FVec Ideal S32x4x8 .f32) (B : Fin 32) (h : Fin 4) (R : Fin 8) :
    broadcastInDim S32x4x8x1 ![0, 1, 2] bcast_S32x4x8_S32x4x8x1_0_1_2 (maximumf (broadcastInDim S32x4x8 ![]
      bcast_S_S32x4x8 (constant S_ .f32 0xFF800000#32)) P) (ix4 B h R 0)
      = max (Ideal.ofBits .f32 0xFF800000#32) (P (ix3 B h R)) := by
  pointwise

/-- The reference's largest score, compared with minus infinity once more. -/
theorem part3_max (a0 : FVec Ideal S32x8x1024 .f32) (a1 a2 : FVec Ideal S32x256x1024 .f32) (B : Fin 32) (h : Fin 4) (R : Fin 8) :
    part3 a0 a1 a2 (ix4 B h R 0) = max (Ideal.ofBits .f32 0xFF800000#32) (part2 a0 a1 a2 (ix3 B h R)) := by
  unfold part3
  generalize part2 a0 a1 a2 = P
  exact bar_at P B h R

/-- Taking the larger of minus infinity and the largest score changes nothing. -/
theorem part3_at (a0 : FVec Ideal S32x8x1024 .f32) (a1 a2 : FVec Ideal S32x256x1024 .f32) (B : Fin 32) (h : Fin 4) (R : Fin 8) :
    part3 a0 a1 a2 (ix4 B h R 0) = top a0 a1 a2 B h R :=
  (part3_max a0 a1 a2 B h R).trans ((congrArg (max _) (part2_at a0 a1 a2 B h R)).trans (max_fold _ _))

/-- The reference's weights before they are divided. -/
theorem part4_at (a0 : FVec Ideal S32x8x1024 .f32) (a1 a2 : FVec Ideal S32x256x1024 .f32) (B : Fin 32) (h : Fin 4) (R : Fin 8) (j : Fin 256) :
    Ideal.exp (part4 a0 a1 a2 (ix4 B h R j)) = weight a0 a1 a2 B h R j := by
  pointwise [part4]
  simp only [part1_at, part3_at, weight]

/-- The reference's output in head `h`. -/
theorem result_at (a0 : FVec Ideal S32x8x1024 .f32) (a1 a2 : FVec Ideal S32x256x1024 .f32) (B : Fin 32) (h : Fin 4) (R : Fin 8) (d : Fin 256) :
    result a0 a1 a2 (ix3 B R ⟨h.val * 256 + d.val, by omega⟩) = entry a0 a1 a2 B h R d := by
  have h1 : (⟨(h.val * 256 + d.val) / 256, by omega⟩ : Fin 4) = h := by apply Fin.ext; show (h.val * 256 + d.val) / 256 = h.val; omega
  pointwise [result]
  simp only [part4_at, entry]
  exact Finset.sum_congr rfl fun x _ => mul_comm _ _

end Cert.XattnSRefIdeal.Val

namespace Cert.XattnSIdeal.Val

open Cert.XattnSIdeal Cert.XattnSIdeal.Gen
open Cert.XattnSRefIdeal.Val

variable (m : (ℓ : Loc nD τ sig) → Buf (Elt Ideal) ℓ)

/-- Every window's block index at every grid point. -/
theorem idx_val : ∀ t : Fin cfg0.N, win0_0.index t = ![t.val, 0, 0]
    ∧ win0_1.index t = ![t.val, 0, 0]
    ∧ win0_2.index t = ![t.val, 0, 0]
    ∧ win0_3.index t = ![t.val, 0, 0] :=
  (by decide +kernel : ∀ t : Fin grid0.N, _)

/-- One head of the kernel at an entry. -/
theorem head_at (a0 : FVec Ideal S32x8x1024 .f32) (a1 a2 : FVec Ideal S32x256x1024 .f32) (B : Fin 32) (h : Fin 4) (R : Fin 8) (r : Fin 8)
    (q : Vec Ideal S1x8x256 .f32) (k v : Vec Ideal S1x256x256 .f32)
    (hq : ∀ d : Fin 256, q (ix3 0 r d) = a0 (ix3 B R ⟨h.val * 256 + d.val, by omega⟩))
    (hk : ∀ (j : Fin 256) (d : Fin 256), k (ix3 0 j d) = a1 (ix3 B j ⟨h.val * 256 + d.val, by omega⟩))
    (hv : ∀ (j : Fin 256) (d : Fin 256), v (ix3 0 j d) = a2 (ix3 B j ⟨h.val * 256 + d.val, by omega⟩))
    (d : Fin 256) : k0_pay1 q k v (ix3 0 r d) = entry a0 a1 a2 B h R d := by
  pointwise [k0_pay1]
  simp only [hq, hk, hv]
  simp only [entry, weight, top, score]

/-- The four heads run the same operations. -/
theorem pay_second (q : Vec Ideal S1x8x256 .f32) (k v : Vec Ideal S1x256x256 .f32) : k0_pay3 (k0_pay2 q k) v = k0_pay1 q k v := rfl
theorem pay_third (q : Vec Ideal S1x8x256 .f32) (k v : Vec Ideal S1x256x256 .f32) : k0_pay5 (k0_pay4 q k) v = k0_pay1 q k v := rfl
theorem pay_fourth (q : Vec Ideal S1x8x256 .f32) (k v : Vec Ideal S1x256x256 .f32) : k0_pay6 q k v = k0_pay1 q k v := rfl

/-- The block the body leaves is the reference's block. -/
theorem point (c : Dev nD) (t : Fin cfg0.N) (y) :
    out0_3 (iblk m c 0 t) (iblk m c 1 t) (iblk m c 2 t) y
      = result (m ((c : Thread nD τ).loc main_arg0)) (m ((c : Thread nD τ).loc main_arg1)) (m ((c : Thread nD τ).loc main_arg2)) (((cfg0.win 3).blk t).view.emb
        y) := by
  have hN : cfg0.N = 32 := rfl
  have ht := t.isLt
  have key : ∀ (h : Fin 4) (r : Fin 8) (d : Fin 256) (q : Vec Ideal S1x8x256 .f32) (k v : Vec Ideal S1x256x256 .f32),
      (∀ d : Fin 256, q (ix3 0 r d) = (iblk m c 0 t) (ix3 0 r ⟨h.val * 256 + d.val, by omega⟩)) →
      (∀ (j : Fin 256) (d : Fin 256), k (ix3 0 j d) = (iblk m c 1 t) (ix3 0 j ⟨h.val * 256 + d.val, by omega⟩)) →
      (∀ (j : Fin 256) (d : Fin 256), v (ix3 0 j d) = (iblk m c 2 t) (ix3 0 j ⟨h.val * 256 + d.val, by omega⟩)) →
      k0_pay1 q k v (ix3 0 r d) = result (m ((c : Thread nD τ).loc main_arg0)) (m ((c : Thread nD τ).loc main_arg1)) (m ((c : Thread nD τ).loc main_arg2))
        (((cfg0.win 3).blk t).view.emb (ix3 0 r ⟨h.val * 256 + d.val, by omega⟩)) := by
    intro h r d q k v hq hk hv
    have he : (((cfg0.win 3).blk t).view.emb (ix3 0 r ⟨h.val * 256 + d.val, by omega⟩))
        = ix3 ⟨t.val, by omega⟩ r ⟨h.val * 256 + d.val, by omega⟩ := by
      blk_ext [idx_val t]
    rw [he, result_at]
    refine head_at _ _ _ _ _ _ _ _ _ _ ?_ ?_ ?_ _
    · intro d; rw [hq]; blk_simp [iblk]; entry_read; blk_point [idx_val t]
    · intro j d; rw [hk]; blk_simp [iblk]; entry_read; blk_point [idx_val t]
    · intro j d; rw [hv]; blk_simp [iblk]; entry_read; blk_point [idx_val t]
  rw [out0_3, pay_second, pay_third, pay_fourth]
  idx_vars y
  canon_tiles x h
  · idx_vars x
    have e := key 3 x1 x2 (View.ld (iblk m c 0 t) r0_6) (View.ld (iblk m c 1 t) r0_7) (View.ld (iblk m c 2 t) r0_7)
      (fun d => by pointwise) (fun j d => by pointwise) (fun j d => by pointwise)
    have hy : ix3 y0 y1 y2 = ix3 0 x1 ⟨3 * 256 + x2.val, by omega⟩ := by
      have e0 : y0 = 0 := Fin.ext (by omega)
      have e1 : y1 = x1 := Fin.ext h1
      have e2 : y2 = ⟨3 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 2 x1 x2 (View.ld (iblk m c 0 t) r0_4) (View.ld (iblk m c 1 t) r0_5) (View.ld (iblk m c 2 t) r0_5)
      (fun d => by pointwise) (fun j d => by pointwise) (fun j d => by pointwise)
    have hy : ix3 y0 y1 y2 = ix3 0 x1 ⟨2 * 256 + x2.val, by omega⟩ := by
      have e0 : y0 = 0 := Fin.ext (by omega)
      have e1 : y1 = x1 := Fin.ext h1
      have e2 : y2 = ⟨2 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 1 x1 x2 (View.ld (iblk m c 0 t) r0_2) (View.ld (iblk m c 1 t) r0_3) (View.ld (iblk m c 2 t) r0_3)
      (fun d => by pointwise) (fun j d => by pointwise) (fun j d => by pointwise)
    have hy : ix3 y0 y1 y2 = ix3 0 x1 ⟨1 * 256 + x2.val, by omega⟩ := by
      have e0 : y0 = 0 := Fin.ext (by omega)
      have e1 : y1 = x1 := Fin.ext h1
      have e2 : y2 = ⟨1 * 256 + x2.val, by omega⟩ := Fin.ext (by first | exact h2 | (simp only [Nat.zero_mul, Nat.zero_add]; omega))
      subst e0 e1; exact congrArg (ix3 0 _) e2
    have ex : x0 = 0 := Fin.ext (by omega)
    rw [hy, ex]
    exact e
  · idx_vars x
    have e := key 0 x1 x2 (View.ld (iblk m c 0 t) r0_0) (View.ld (iblk m c 1 t) r0_1) (View.ld (iblk m c 2 t) r0_1)
      (fun d => by pointwise) (fun j d => by pointwise) (fun j d => by pointwise)
    have hy : ix3 y0 y1 y2 = ix3 0 x1 ⟨0 * 256 + x2.val, by have := x2.isLt; omega⟩ := by
      have e0 : y0 = 0 := Fin.ext (by omega)
      have e1 : y1 = x1 := Fin.ext h1
      have e2 : y2 = ⟨0 * 256 + x2.val, by have := x2.isLt; omega⟩ := Fin.ext (by first | exact h2 | (simp only [Nat.zero_mul, Nat.zero_add]; omega))
      subst e0 e1; exact congrArg (ix3 0 _) e2
    have ex : x0 = 0 := Fin.ext (by omega)
    rw [hy, ex]
    exact e

/-- The result array after the run. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  exact point m c t y

end Cert.XattnSIdeal.Val

end
-- ==== Proof.CrossOutSValue.lean ====
/- The output projection of the cross attention: its kernel block is the reference product, normalised and added back, for the sample. -/
module

public import proofs.«01_k».proof.Proof.Gen.CrossOutSIdeal.Frame
public import proofs.«01_k».proof.Proof.Gen.CrossOutSRefIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.CrossOutSRefIdeal.Val

open Cert.CrossOutSRefIdeal Cert.CrossOutSRefIdeal.Gen

def result (a0 : FVec Ideal S256x1024 .f32) (a1 : FVec Ideal S256x1024 .f32) (a2 : FVec Ideal S1024x1024 .f32) (a3 : FVec Ideal S1024 .f32) : FVec Ideal S256x1024 .f32 :=
  addf a0 (mulf (mulf (Host.dotGeneral dot_S256x1024_S1024x1024_S256x1024_1_0_0_1_n_n none a1 a2) (broadcastInDim S256x1024 ![0, 1] bcast_S256x1_S256x1024_0_1 (Host.rsqrt (addf (Host.divf (broadcastInDim S256x1 ![0] bcast_S256_S256x1_0 (Host.reduceAdd (mulf (Host.dotGeneral dot_S256x1024_S1024x1024_S256x1024_1_0_0_1_n_n none a1 a2) (Host.dotGeneral dot_S256x1024_S1024x1024_S256x1024_1_0_0_1_n_n none a1 a2)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a3)))

end Cert.CrossOutSRefIdeal.Val

namespace Cert.CrossOutSIdeal.Val

open Cert.CrossOutSIdeal Cert.CrossOutSIdeal.Gen
open Cert.CrossOutSRefIdeal.Val

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- What the body stores at block index `y` of point `t` is the reference at the array index `y` sits at. -/
theorem point (c : Dev nD) (t : Fin cfg0.N) (y) :
    k0_pay1 (iblk m c 1 t) (iblk m c 2 t) (iblk m c 0 t) (iblk m c 3 t) y
      = result (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, result]; blk_point [iblk, V, idx_val t]

/-- The result array after the run. -/
theorem final (c : Dev nD) : (dats m 0 c).arrAt 4 (cfgs 0).N = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.CrossOutSIdeal.Val

end
-- ==== Proof.lean ====
/- The claims about the calls of one layer: the feed-forward half step, the mixers' input
   projections and merge, the sample's gated recurrence, and the attention over the memory with
   its projections. -/
module

public import proofs.«01_k».proof.Defs
public import proofs.«01_k».proof.Proof.Gen.Ffn.Frame
public import proofs.«01_k».proof.Proof.Gen.FfnRefIdeal.Run
public import proofs.«01_k».proof.Proof.FfnValue
public import proofs.«01_k».proof.Proof.Gen.MixIn.Frame
public import proofs.«01_k».proof.Proof.Gen.MixInRefIdeal.Run
public import proofs.«01_k».proof.Proof.MixInValue
public import proofs.«01_k».proof.Proof.Gen.Merge.Frame
public import proofs.«01_k».proof.Proof.Gen.MergeRefIdeal.Run
public import proofs.«01_k».proof.Proof.MergeValue
public import proofs.«01_k».proof.Proof.Gen.CrossQ.Frame
public import proofs.«01_k».proof.Proof.Gen.CrossQRefIdeal.Run
public import proofs.«01_k».proof.Proof.CrossQValue
public import proofs.«01_k».proof.Proof.Gen.MemKv.Frame
public import proofs.«01_k».proof.Proof.Gen.MemKvRefIdeal.Run
public import proofs.«01_k».proof.Proof.MemKvValue
public import proofs.«01_k».proof.Proof.Gen.Xattn.Frame
public import proofs.«01_k».proof.Proof.Gen.XattnRefIdeal.Run
public import proofs.«01_k».proof.Proof.XattnValue
public import proofs.«01_k».proof.Proof.Gen.CrossOut.Frame
public import proofs.«01_k».proof.Proof.Gen.CrossOutRefIdeal.Run
public import proofs.«01_k».proof.Proof.CrossOutValue
public import proofs.«01_k».proof.Proof.Gen.FfnS.Frame
public import proofs.«01_k».proof.Proof.Gen.FfnSRefIdeal.Run
public import proofs.«01_k».proof.Proof.FfnSValue
public import proofs.«01_k».proof.Proof.Gen.MixInS.Frame
public import proofs.«01_k».proof.Proof.Gen.MixInSRefIdeal.Run
public import proofs.«01_k».proof.Proof.MixInSValue
public import proofs.«01_k».proof.Proof.Gen.HgrnS.Frame
public import proofs.«01_k».proof.Proof.Gen.HgrnSIdeal.Frame
public import proofs.«01_k».proof.Proof.Gen.HgrnSRefIdeal.Run
public import proofs.«01_k».proof.Proof.Gen.Pre_hgrn_domain
public import proofs.«01_k».proof.Proof.HgrnSValue
public import proofs.«01_k».proof.Proof.Gen.MergeS.Frame
public import proofs.«01_k».proof.Proof.Gen.MergeSRefIdeal.Run
public import proofs.«01_k».proof.Proof.MergeSValue
public import proofs.«01_k».proof.Proof.Gen.CrossQS.Frame
public import proofs.«01_k».proof.Proof.Gen.CrossQSRefIdeal.Run
public import proofs.«01_k».proof.Proof.CrossQSValue
public import proofs.«01_k».proof.Proof.Gen.XattnS.Frame
public import proofs.«01_k».proof.Proof.Gen.XattnSRefIdeal.Run
public import proofs.«01_k».proof.Proof.XattnSValue
public import proofs.«01_k».proof.Proof.Gen.CrossOutS.Frame
public import proofs.«01_k».proof.Proof.Gen.CrossOutSRefIdeal.Run
public import proofs.«01_k».proof.Proof.CrossOutSValue
public import Idealize.ShloMosaic.Lib.Claim
public import Idealize.ShloMosaic.Adequacy
public import Idealize.ShloMosaic.Init

@[expose] public section

noncomputable section

namespace Cert.Proof

open Idealize.ShloMosaic Idealize.SL.Sem

/-- The kernel of the feed-forward half step ends with its arguments unchanged and every counter at zero. -/
theorem frame_Ffn : Cert.quiescent_Ffn := fun m ρ _ => Cert.Ffn.Gen.frame (F := Bits) m ρ

/-- The same over the extended reals. -/
theorem frame_FfnIdeal : Cert.quiescent_FfnIdeal := fun m ρ _ => Cert.FfnIdeal.Gen.frame (F := Ideal) m ρ

/-- The reference of the feed-forward half step ends with its arguments unchanged; it declares no counter. -/
theorem frame_FfnRefIdeal : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

set_option maxHeartbeats 1600000 in
/-- The kernel of the feed-forward half step and its reference end with the same results over the extended reals. -/
theorem algebraic_Ffn : Cert.algebraic_FfnIdeal_FfnRefIdeal := by
  pair_intro
  · run_from Cert.FfnIdeal.Gen.run_main m g
  · hlo_run
    exact (Cert.FfnIdeal.Val.final m c).symm

/-- The kernel of the mixers' input projections ends with its arguments unchanged and every counter at zero. -/
theorem frame_MixIn : Cert.quiescent_MixIn := fun m ρ _ => Cert.MixIn.Gen.frame (F := Bits) m ρ

/-- The same over the extended reals. -/
theorem frame_MixInIdeal : Cert.quiescent_MixInIdeal := fun m ρ _ => Cert.MixInIdeal.Gen.frame (F := Ideal) m ρ

/-- The reference of the mixers' input projections ends with its arguments unchanged; it declares no counter. -/
theorem frame_MixInRefIdeal : Cert.quiescent_MixInRefIdeal := fun m ρ _ =>
  (θ_run Cert.MixInRefIdeal.defs _ _).mono (fun r h => ⟨fun c => (h c).2.2.2.2,
      Idealize.ShloMosaic.sem_eq_zero_of_no_sems (by decide) r.2⟩)
    (Cert.MixInRefIdeal.Value.run (F := Ideal) m ρ)

set_option maxHeartbeats 1600000 in
/-- The kernel of the mixers' input projections and its reference end with the same results over the extended reals. -/
theorem algebraic_MixIn : Cert.algebraic_MixInIdeal_MixInRefIdeal := by
  pair_intro
  · run_from Cert.MixInIdeal.Gen.run_main m g & Cert.MixInIdeal.Gen.unchanged m g
  · hlo_run
    · exact (Cert.MixInIdeal.Val.final_6 m c).symm
    · exact (Cert.MixInIdeal.Val.final_7 m c).symm
    · exact (Cert.MixInIdeal.Val.final_8 m c).symm
    · exact (Cert.MixInIdeal.Val.final_9 m c).symm

/-- The kernel of the merge of the three mixers ends with its arguments unchanged and every counter at zero. -/
theorem frame_Merge : Cert.quiescent_Merge := fun m ρ _ => Cert.Merge.Gen.frame (F := Bits) m ρ

/-- The same over the extended reals. -/
theorem frame_MergeIdeal : Cert.quiescent_MergeIdeal := fun m ρ _ => Cert.MergeIdeal.Gen.frame (F := Ideal) m ρ

/-- The reference of the merge of the three mixers ends with its arguments unchanged; it declares no counter. -/
theorem frame_MergeRefIdeal : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

set_option maxHeartbeats 1600000 in
/-- The kernel of the merge of the three mixers and its reference end with the same results over the extended reals. -/
theorem algebraic_Merge : Cert.algebraic_MergeIdeal_MergeRefIdeal := by
  pair_intro
  · run_from Cert.MergeIdeal.Gen.run_main m g
  · hlo_run
    exact (Cert.MergeIdeal.Val.final m c).symm

/-- The kernel of the cross attention's query projection ends with its arguments unchanged and every counter at zero. -/
theorem frame_CrossQ : Cert.quiescent_CrossQ := fun m ρ _ => Cert.CrossQ.Gen.frame (F := Bits) m ρ

/-- The same over the extended reals. -/
theorem frame_CrossQIdeal : Cert.quiescent_CrossQIdeal := fun m ρ _ => Cert.CrossQIdeal.Gen.frame (F := Ideal) m ρ

/-- The reference of the cross attention's query projection ends with its arguments unchanged; it declares no counter. -/
theorem frame_CrossQRefIdeal : Cert.quiescent_CrossQRefIdeal := fun m ρ _ =>
  (θ_run Cert.CrossQRefIdeal.defs _ _).mono (fun r h => ⟨fun c => (h c).2,
      Idealize.ShloMosaic.sem_eq_zero_of_no_sems (by decide) r.2⟩)
    (Cert.CrossQRefIdeal.Value.run (F := Ideal) m ρ)

set_option maxHeartbeats 1600000 in
/-- The kernel of the cross attention's query projection and its reference end with the same results over the extended reals. -/
theorem algebraic_CrossQ : Cert.algebraic_CrossQIdeal_CrossQRefIdeal := by
  pair_intro
  · run_from Cert.CrossQIdeal.Gen.run_main m g
  · hlo_run
    exact (Cert.CrossQIdeal.Val.final m c).symm

/-- The kernel of the memory's keys and values ends with its arguments unchanged and every counter at zero. -/
theorem frame_MemKv : Cert.quiescent_MemKv := fun m ρ _ => Cert.MemKv.Gen.frame (F := Bits) m ρ

/-- The same over the extended reals. -/
theorem frame_MemKvIdeal : Cert.quiescent_MemKvIdeal := fun m ρ _ => Cert.MemKvIdeal.Gen.frame (F := Ideal) m ρ

/-- The reference of the memory's keys and values ends with its arguments unchanged; it declares no counter. -/
theorem frame_MemKvRefIdeal : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

set_option maxHeartbeats 1600000 in
/-- The kernel of the memory's keys and values and its reference end with the same results over the extended reals. -/
theorem algebraic_MemKv : Cert.algebraic_MemKvIdeal_MemKvRefIdeal := by
  pair_intro
  · run_from Cert.MemKvIdeal.Gen.run_main m g
  · hlo_run
    rw [(hagree c).2.2]
    exact (Cert.MemKvIdeal.Val.final m c).symm

/-- The kernel of the attention over the memory ends with its arguments unchanged and every counter at zero. -/
theorem frame_Xattn : Cert.quiescent_Xattn := fun m ρ _ => Cert.Xattn.Gen.frame (F := Bits) m ρ

/-- The same over the extended reals. -/
theorem frame_XattnIdeal : Cert.quiescent_XattnIdeal := fun m ρ _ => Cert.XattnIdeal.Gen.frame (F := Ideal) m ρ

/-- The reference of the attention over the memory ends with its arguments unchanged; it declares no counter. -/
theorem frame_XattnRefIdeal : Cert.quiescent_XattnRefIdeal := fun m ρ _ =>
  (θ_run Cert.XattnRefIdeal.defs _ _).mono (fun r h => ⟨fun c => (h c).2,
      Idealize.ShloMosaic.sem_eq_zero_of_no_sems (by decide) r.2⟩)
    (Cert.XattnRefIdeal.Value.run (F := Ideal) m ρ)

set_option maxHeartbeats 1600000 in
/-- The kernel of the attention over the memory and its reference end with the same results over the extended reals. -/
theorem algebraic_Xattn : Cert.algebraic_XattnIdeal_XattnRefIdeal := by
  pair_intro
  · run_from Cert.XattnIdeal.Gen.run_main m g
  · hlo_run
    exact (Cert.XattnIdeal.Val.final m c).symm

/-- The kernel of the cross attention's output projection ends with its arguments unchanged and every counter at zero. -/
theorem frame_CrossOut : Cert.quiescent_CrossOut := fun m ρ _ => Cert.CrossOut.Gen.frame (F := Bits) m ρ

/-- The same over the extended reals. -/
theorem frame_CrossOutIdeal : Cert.quiescent_CrossOutIdeal := fun m ρ _ => Cert.CrossOutIdeal.Gen.frame (F := Ideal) m ρ

/-- The reference of the cross attention's output projection ends with its arguments unchanged; it declares no counter. -/
theorem frame_CrossOutRefIdeal : Cert.quiescent_CrossOutRefIdeal := fun m ρ _ =>
  (θ_run Cert.CrossOutRefIdeal.defs _ _).mono (fun r h => ⟨fun c => (h c).2,
      Idealize.ShloMosaic.sem_eq_zero_of_no_sems (by decide) r.2⟩)
    (Cert.CrossOutRefIdeal.Value.run (F := Ideal) m ρ)

set_option maxHeartbeats 1600000 in
/-- The kernel of the cross attention's output projection and its reference end with the same results over the extended reals. -/
theorem algebraic_CrossOut : Cert.algebraic_CrossOutIdeal_CrossOutRefIdeal := by
  pair_intro
  · run_from Cert.CrossOutIdeal.Gen.run_main m g
  · hlo_run
    exact (Cert.CrossOutIdeal.Val.final m c).symm

/-- The kernel of the feed-forward half step for the sample ends with its arguments unchanged and every counter at zero. -/
theorem frame_FfnS : Cert.quiescent_FfnS := fun m ρ _ => Cert.FfnS.Gen.frame (F := Bits) m ρ

/-- The same over the extended reals. -/
theorem frame_FfnSIdeal : Cert.quiescent_FfnSIdeal := fun m ρ _ => Cert.FfnSIdeal.Gen.frame (F := Ideal) m ρ

/-- The reference of the feed-forward half step for the sample ends with its arguments unchanged; it declares no counter. -/
theorem frame_FfnSRefIdeal : Cert.quiescent_FfnSRefIdeal := fun m ρ _ =>
  (θ_run Cert.FfnSRefIdeal.defs _ _).mono (fun r h => ⟨fun c => (h c).2,
      Idealize.ShloMosaic.sem_eq_zero_of_no_sems (by decide) r.2⟩)
    (Cert.FfnSRefIdeal.Value.run (F := Ideal) m ρ)

set_option maxHeartbeats 1600000 in
/-- The kernel of the feed-forward half step for the sample and its reference end with the same results over the extended reals. -/
theorem algebraic_FfnS : Cert.algebraic_FfnSIdeal_FfnSRefIdeal := by
  pair_intro
  · run_from Cert.FfnSIdeal.Gen.run_main m g
  · hlo_run
    exact (Cert.FfnSIdeal.Val.final m c).symm

/-- The kernel of the mixers' input projections for the sample ends with its arguments unchanged and every counter at zero. -/
theorem frame_MixInS : Cert.quiescent_MixInS := fun m ρ _ => Cert.MixInS.Gen.frame (F := Bits) m ρ

/-- The same over the extended reals. -/
theorem frame_MixInSIdeal : Cert.quiescent_MixInSIdeal := fun m ρ _ => Cert.MixInSIdeal.Gen.frame (F := Ideal) m ρ

/-- The reference of the mixers' input projections for the sample ends with its arguments unchanged; it declares no counter. -/
theorem frame_MixInSRefIdeal : Cert.quiescent_MixInSRefIdeal := fun m ρ _ =>
  (θ_run Cert.MixInSRefIdeal.defs _ _).mono (fun r h => ⟨fun c => (h c).2.2.2.2,
      Idealize.ShloMosaic.sem_eq_zero_of_no_sems (by decide) r.2⟩)
    (Cert.MixInSRefIdeal.Value.run (F := Ideal) m ρ)

set_option maxHeartbeats 1600000 in
/-- The kernel of the mixers' input projections for the sample and its reference end with the same results over the extended reals. -/
theorem algebraic_MixInS : Cert.algebraic_MixInSIdeal_MixInSRefIdeal := by
  pair_intro
  · run_from Cert.MixInSIdeal.Gen.run_main m g & Cert.MixInSIdeal.Gen.unchanged m g
  · hlo_run
    · exact (Cert.MixInSIdeal.Val.final_6 m c).symm
    · exact (Cert.MixInSIdeal.Val.final_7 m c).symm
    · exact (Cert.MixInSIdeal.Val.final_8 m c).symm
    · exact (Cert.MixInSIdeal.Val.final_9 m c).symm

/-- The kernel of the merge of the three mixers for the sample ends with its arguments unchanged and every counter at zero. -/
theorem frame_MergeS : Cert.quiescent_MergeS := fun m ρ _ => Cert.MergeS.Gen.frame (F := Bits) m ρ

/-- The same over the extended reals. -/
theorem frame_MergeSIdeal : Cert.quiescent_MergeSIdeal := fun m ρ _ => Cert.MergeSIdeal.Gen.frame (F := Ideal) m ρ

/-- The reference of the merge of the three mixers for the sample ends with its arguments unchanged; it declares no counter. -/
theorem frame_MergeSRefIdeal : Cert.quiescent_MergeSRefIdeal := fun m ρ _ =>
  (θ_run Cert.MergeSRefIdeal.defs _ _).mono (fun r h => ⟨fun c => (h c).2,
      Idealize.ShloMosaic.sem_eq_zero_of_no_sems (by decide) r.2⟩)
    (Cert.MergeSRefIdeal.Value.run (F := Ideal) m ρ)

set_option maxHeartbeats 1600000 in
/-- The kernel of the merge of the three mixers for the sample and its reference end with the same results over the extended reals. -/
theorem algebraic_MergeS : Cert.algebraic_MergeSIdeal_MergeSRefIdeal := by
  pair_intro
  · run_from Cert.MergeSIdeal.Gen.run_main m g
  · hlo_run
    exact (Cert.MergeSIdeal.Val.final m c).symm

/-- The kernel of the cross attention's query projection for the sample ends with its arguments unchanged and every counter at zero. -/
theorem frame_CrossQS : Cert.quiescent_CrossQS := fun m ρ _ => Cert.CrossQS.Gen.frame (F := Bits) m ρ

/-- The same over the extended reals. -/
theorem frame_CrossQSIdeal : Cert.quiescent_CrossQSIdeal := fun m ρ _ => Cert.CrossQSIdeal.Gen.frame (F := Ideal) m ρ

/-- The reference of the cross attention's query projection for the sample ends with its arguments unchanged; it declares no counter. -/
theorem frame_CrossQSRefIdeal : Cert.quiescent_CrossQSRefIdeal := fun m ρ _ =>
  (θ_run Cert.CrossQSRefIdeal.defs _ _).mono (fun r h => ⟨fun c => (h c).2,
      Idealize.ShloMosaic.sem_eq_zero_of_no_sems (by decide) r.2⟩)
    (Cert.CrossQSRefIdeal.Value.run (F := Ideal) m ρ)

set_option maxHeartbeats 1600000 in
/-- The kernel of the cross attention's query projection for the sample and its reference end with the same results over the extended reals. -/
theorem algebraic_CrossQS : Cert.algebraic_CrossQSIdeal_CrossQSRefIdeal := by
  pair_intro
  · run_from Cert.CrossQSIdeal.Gen.run_main m g
  · hlo_run
    exact (Cert.CrossQSIdeal.Val.final m c).symm

/-- The kernel of the attention over the memory for the sample ends with its arguments unchanged and every counter at zero. -/
theorem frame_XattnS : Cert.quiescent_XattnS := fun m ρ _ => Cert.XattnS.Gen.frame (F := Bits) m ρ

/-- The same over the extended reals. -/
theorem frame_XattnSIdeal : Cert.quiescent_XattnSIdeal := fun m ρ _ => Cert.XattnSIdeal.Gen.frame (F := Ideal) m ρ

/-- The reference of the attention over the memory for the sample ends with its arguments unchanged; it declares no counter. -/
theorem frame_XattnSRefIdeal : Cert.quiescent_XattnSRefIdeal := fun m ρ _ =>
  (θ_run Cert.XattnSRefIdeal.defs _ _).mono (fun r h => ⟨fun c => (h c).2,
      Idealize.ShloMosaic.sem_eq_zero_of_no_sems (by decide) r.2⟩)
    (Cert.XattnSRefIdeal.Value.run (F := Ideal) m ρ)

set_option maxHeartbeats 1600000 in
/-- The kernel of the attention over the memory for the sample and its reference end with the same results over the extended reals. -/
theorem algebraic_XattnS : Cert.algebraic_XattnSIdeal_XattnSRefIdeal := by
  pair_intro
  · run_from Cert.XattnSIdeal.Gen.run_main m g
  · hlo_run
    exact (Cert.XattnSIdeal.Val.final m c).symm

/-- The kernel of the cross attention's output projection for the sample ends with its arguments unchanged and every counter at zero. -/
theorem frame_CrossOutS : Cert.quiescent_CrossOutS := fun m ρ _ => Cert.CrossOutS.Gen.frame (F := Bits) m ρ

/-- The same over the extended reals. -/
theorem frame_CrossOutSIdeal : Cert.quiescent_CrossOutSIdeal := fun m ρ _ => Cert.CrossOutSIdeal.Gen.frame (F := Ideal) m ρ

/-- The reference of the cross attention's output projection for the sample ends with its arguments unchanged; it declares no counter. -/
theorem frame_CrossOutSRefIdeal : Cert.quiescent_CrossOutSRefIdeal := fun m ρ _ =>
  (θ_run Cert.CrossOutSRefIdeal.defs _ _).mono (fun r h => ⟨fun c => (h c).2,
      Idealize.ShloMosaic.sem_eq_zero_of_no_sems (by decide) r.2⟩)
    (Cert.CrossOutSRefIdeal.Value.run (F := Ideal) m ρ)

set_option maxHeartbeats 1600000 in
/-- The kernel of the cross attention's output projection for the sample and its reference end with the same results over the extended reals. -/
theorem algebraic_CrossOutS : Cert.algebraic_CrossOutSIdeal_CrossOutSRefIdeal := by
  pair_intro
  · run_from Cert.CrossOutSIdeal.Gen.run_main m g
  · hlo_run
    exact (Cert.CrossOutSIdeal.Val.final m c).symm

/-- The kernel of the gated recurrence for the sample ends with its arguments unchanged and every counter at zero. -/
theorem frame_HgrnS : Cert.quiescent_HgrnS := fun m ρ _ => Cert.HgrnS.Gen.frame (F := Bits) m ρ

/-- The same over the extended reals. -/
theorem frame_HgrnSIdeal : Cert.quiescent_HgrnSIdeal := fun m ρ _ => Cert.HgrnSIdeal.Gen.frame (F := Ideal) m ρ

/-- The same from arguments in the stated domain. -/
theorem frame_HgrnSIdeal_domain : Cert.quiescent_HgrnSIdeal_pre_hgrn_domain := fun m ρ _ => Cert.HgrnSIdeal.Gen.frame (F := Ideal) m ρ

/-- The reference of the gated recurrence for the sample ends with its arguments unchanged; it declares no counter. -/
theorem frame_HgrnSRefIdeal : Cert.quiescent_HgrnSRefIdeal := fun m ρ _ =>
  (θ_run Cert.HgrnSRefIdeal.defs _ _).mono (fun r h => ⟨fun c => (h c).2,
      Idealize.ShloMosaic.sem_eq_zero_of_no_sems (by decide) r.2⟩)
    (Cert.HgrnSRefIdeal.Value.run (F := Ideal) m ρ)

/-- The same from arguments in the stated domain. -/
theorem frame_HgrnSRefIdeal_domain : Cert.quiescent_HgrnSRefIdeal_pre_hgrn_domain := fun m ρ _ =>
  (θ_run Cert.HgrnSRefIdeal.defs _ _).mono (fun r h => ⟨fun c => (h c).2,
      Idealize.ShloMosaic.sem_eq_zero_of_no_sems (by decide) r.2⟩)
    (Cert.HgrnSRefIdeal.Value.run (F := Ideal) m ρ)

set_option maxHeartbeats 1600000 in
/-- The reference's result array is the recurrence of its arguments. -/
theorem result_HgrnSRef (m : (ℓ : Loc Cert.HgrnSRefIdeal.nD Cert.HgrnSRefIdeal.τ Cert.HgrnSRefIdeal.sig) → Buf (Elt Ideal) ℓ) (c : Dev Cert.HgrnSRefIdeal.nD) :
    Cert.HgrnSRefIdeal.Value.res_main_v101 m c
      = Cert.HgrnSRefIdeal.Val.result (m ((c.tc : Thread Cert.HgrnSRefIdeal.nD Cert.HgrnSRefIdeal.τ).loc Cert.HgrnSRefIdeal.main_arg0)) (m ((c.tc : Thread Cert.HgrnSRefIdeal.nD Cert.HgrnSRefIdeal.τ).loc Cert.HgrnSRefIdeal.main_arg1)) (m ((c.tc : Thread Cert.HgrnSRefIdeal.nD Cert.HgrnSRefIdeal.τ).loc Cert.HgrnSRefIdeal.main_arg3)) := by
  unfold Cert.HgrnSRefIdeal.Value.res_main_v101; rfl

/-- From arguments in the stated domain the kernel of the gated recurrence for the sample and its reference end with the same state over the extended reals. -/
theorem algebraic_HgrnS : Cert.algebraic_HgrnSIdeal_HgrnSRefIdeal_pre_hgrn_domain := by
  pair_intro
  · run_from Cert.HgrnSIdeal.Gen.run_main m g & Cert.HgrnSIdeal.Gen.unchanged m g
  · refine (θ_run Cert.HgrnSRefIdeal.defs _ _).mono (fun r h c => ⟨(h c).1.trans ?_, (h c).2⟩) (Cert.HgrnSRefIdeal.Value.run (F := Ideal) m' g')
    rw [result_HgrnSRef, (hagree c).1, (hagree c).2.1, (hagree c).2.2.2]
    exact (Cert.HgrnSIdeal.Val.final m c (hpre c)).symm

/-- Every claim, with the stated facts of the programs. -/
theorem claim : Cert.Claim := ⟨Cert.Ffn.Gen.facts,
    Cert.FfnIdeal.Gen.facts,
    Cert.FfnRefIdeal.Gen.facts,
    Cert.MixIn.Gen.facts,
    Cert.MixInIdeal.Gen.facts,
    Cert.MixInRefIdeal.Gen.facts,
    Cert.Merge.Gen.facts,
    Cert.MergeIdeal.Gen.facts,
    Cert.MergeRefIdeal.Gen.facts,
    Cert.CrossQ.Gen.facts,
    Cert.CrossQIdeal.Gen.facts,
    Cert.CrossQRefIdeal.Gen.facts,
    Cert.MemKv.Gen.facts,
    Cert.MemKvIdeal.Gen.facts,
    Cert.MemKvRefIdeal.Gen.facts,
    Cert.Xattn.Gen.facts,
    Cert.XattnIdeal.Gen.facts,
    Cert.XattnRefIdeal.Gen.facts,
    Cert.CrossOut.Gen.facts,
    Cert.CrossOutIdeal.Gen.facts,
    Cert.CrossOutRefIdeal.Gen.facts,
    Cert.FfnS.Gen.facts,
    Cert.FfnSIdeal.Gen.facts,
    Cert.FfnSRefIdeal.Gen.facts,
    Cert.MixInS.Gen.facts,
    Cert.MixInSIdeal.Gen.facts,
    Cert.MixInSRefIdeal.Gen.facts,
    Cert.MergeS.Gen.facts,
    Cert.MergeSIdeal.Gen.facts,
    Cert.MergeSRefIdeal.Gen.facts,
    Cert.CrossQS.Gen.facts,
    Cert.CrossQSIdeal.Gen.facts,
    Cert.CrossQSRefIdeal.Gen.facts,
    Cert.XattnS.Gen.facts,
    Cert.XattnSIdeal.Gen.facts,
    Cert.XattnSRefIdeal.Gen.facts,
    Cert.CrossOutS.Gen.facts,
    Cert.CrossOutSIdeal.Gen.facts,
    Cert.CrossOutSRefIdeal.Gen.facts,
    Cert.HgrnS.Gen.facts,
    Cert.HgrnSIdeal.Gen.facts,
    Cert.HgrnSRefIdeal.Gen.facts,
    Cert.Pre_hgrn_domain.Gen.facts,
  frame_Ffn, frame_FfnIdeal, frame_FfnRefIdeal, frame_MixIn, frame_MixInIdeal, frame_MixInRefIdeal, frame_Merge, frame_MergeIdeal, frame_MergeRefIdeal, frame_CrossQ, frame_CrossQIdeal, frame_CrossQRefIdeal, frame_MemKv, frame_MemKvIdeal, frame_MemKvRefIdeal, frame_Xattn, frame_XattnIdeal, frame_XattnRefIdeal, frame_CrossOut, frame_CrossOutIdeal, frame_CrossOutRefIdeal, frame_FfnS, frame_FfnSIdeal, frame_FfnSRefIdeal, frame_MixInS, frame_MixInSIdeal, frame_MixInSRefIdeal, frame_MergeS, frame_MergeSIdeal, frame_MergeSRefIdeal, frame_CrossQS, frame_CrossQSIdeal, frame_CrossQSRefIdeal, frame_XattnS, frame_XattnSIdeal, frame_XattnSRefIdeal, frame_CrossOutS, frame_CrossOutSIdeal, frame_CrossOutSRefIdeal, frame_HgrnS, frame_HgrnSIdeal, frame_HgrnSIdeal_domain, frame_HgrnSRefIdeal, frame_HgrnSRefIdeal_domain, trivial, algebraic_Ffn, trivial, algebraic_MixIn, trivial, algebraic_Merge, trivial, algebraic_CrossQ, trivial, algebraic_MemKv, trivial, algebraic_Xattn, trivial, algebraic_CrossOut, trivial, algebraic_FfnS, trivial, algebraic_MixInS, trivial, algebraic_MergeS, trivial, algebraic_CrossQS, trivial, algebraic_XattnS, trivial, algebraic_CrossOutS, trivial, algebraic_HgrnS⟩

end Cert.Proof

end
